-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v0) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S2x8192x32x192 : Shape := ⟨4, ![2, 8192, 32, 192]⟩
abbrev S2x8192x32x128 : Shape := ⟨4, ![2, 8192, 32, 128]⟩
abbrev S_ : Shape := ⟨0, ![]⟩

class Facts : Prop where
  bcast_S_S2x8192x32x192 : S_.BroadcastsInDim S2x8192x32x192 (![] : Fin 0 → Fin S2x8192x32x192.rank)
  reducesTo_S2x8192x32x192_S_d0_1_2_3 : S2x8192x32x192.ReducesTo [0, 1, 2, 3] S_
  h_S_ : 0 < S_.numel

variable [Facts]

def fn {F : FTy → Type} [FloatOps F] (main_arg0 : FVec F S2x8192x32x192 .f32) (main_arg1 : FVec F S2x8192x32x192 .f32) (main_arg2 : FVec F S2x8192x32x128 .f32) : IVec S_ 1 :=
  let main_v0 : FVec F S2x8192x32x192 .f32 := Host.absf main_arg0
  let main_cst : FVec F S_ .f32 := constant S_ .f32 0x7F800000#32
  let main_v1 : FVec F S2x8192x32x192 .f32 := broadcastInDim S2x8192x32x192 ![] bcast_S_S2x8192x32x192 main_cst
  let main_v2 : IVec S2x8192x32x192 1 := cmpf .olt main_v0 main_v1
  let main_c : IVec S_ 1 := constantI S_ 1 1#1
  let main_v3 : IVec S_ 1 := (fun x v => Host.reduce IntOp.andi x v reducesTo_S2x8192x32x192_S_d0_1_2_3 h_S_) main_v2 main_c
  let main_v4 : FVec F S2x8192x32x192 .f32 := Host.absf main_arg1
  let main_cst_0 : FVec F S_ .f32 := constant S_ .f32 0x7F800000#32
  let main_v5 : FVec F S2x8192x32x192 .f32 := broadcastInDim S2x8192x32x192 ![] bcast_S_S2x8192x32x192 main_cst_0
  let main_v6 : IVec S2x8192x32x192 1 := cmpf .olt main_v4 main_v5
  let main_c_1 : IVec S_ 1 := constantI S_ 1 1#1
  let main_v7 : IVec S_ 1 := (fun x v => Host.reduce IntOp.andi x v reducesTo_S2x8192x32x192_S_d0_1_2_3 h_S_) main_v6 main_c_1
  let main_v8 : IVec S_ 1 := andi main_v3 main_v7
  main_v8
-- ==== Kernel.lean ====
abbrev S2x8192x32x192 : Shape := ⟨4, ![2, 8192, 32, 192]⟩
abbrev S2x8192x32x128 : Shape := ⟨4, ![2, 8192, 32, 128]⟩
abbrev S_ : Shape := ⟨0, ![]⟩
abbrev S2x8192x16x2x192 : Shape := ⟨5, ![2, 8192, 16, 2, 192]⟩
abbrev S2x8192x16x64 : Shape := ⟨4, ![2, 8192, 16, 64]⟩
abbrev S2x8192x16x1x192 : Shape := ⟨5, ![2, 8192, 16, 1, 192]⟩
abbrev S2x8192x16x192 : Shape := ⟨4, ![2, 8192, 16, 192]⟩
abbrev S2x8192x16x256 : Shape := ⟨4, ![2, 8192, 16, 256]⟩
abbrev S2x8192x16x1x128 : Shape := ⟨5, ![2, 8192, 16, 1, 128]⟩
abbrev S2x8192x16x128 : Shape := ⟨4, ![2, 8192, 16, 128]⟩
abbrev S2x8192x16x1x64 : Shape := ⟨5, ![2, 8192, 16, 1, 64]⟩
abbrev S2x8192x16x512 : Shape := ⟨4, ![2, 8192, 16, 512]⟩
abbrev S2x8192x8192 : Shape := ⟨3, ![2, 8192, 8192]⟩
abbrev S2x8192x4096 : Shape := ⟨3, ![2, 8192, 4096]⟩
abbrev S1x8192x256 : Shape := ⟨3, ![1, 8192, 256]⟩
abbrev S1x8192x128 : Shape := ⟨3, ![1, 8192, 128]⟩
abbrev S1024x1024 : Shape := ⟨2, ![1024, 1024]⟩
abbrev S1x2048x256 : Shape := ⟨3, ![1, 2048, 256]⟩
abbrev S2048x256 : Shape := ⟨2, ![2048, 256]⟩
abbrev S1x2048 : Shape := ⟨2, ![1, 2048]⟩
abbrev S128x2048 : Shape := ⟨2, ![128, 2048]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩
abbrev S1024x2048 : Shape := ⟨2, ![1024, 2048]⟩
abbrev S2048 : Shape := ⟨1, ![2048]⟩
abbrev S1x1024 : Shape := ⟨2, ![1, 1024]⟩
abbrev S128x1024 : Shape := ⟨2, ![128, 1024]⟩
abbrev S1024 : Shape := ⟨1, ![1024]⟩

abbrev nBuf : Space → Nat
  | .hbm => 43
  | .vmem => 8
  | .smem => 0
  | _ => 0

abbrev bufTy : (tb : Table) → Fin (tcTables nBuf tb) → BufTy
  | .hbm, ⟨0, _⟩ => ⟨S2x8192x32x192, .f32⟩
  | .hbm, ⟨1, _⟩ => ⟨S2x8192x32x192, .f32⟩
  | .hbm, ⟨2, _⟩ => ⟨S2x8192x32x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x8192x32x192, .f32⟩
  | .hbm, ⟨11, _⟩ => ⟨S2x8192x32x192, .f32⟩
  | .hbm, ⟨12, _⟩ => ⟨S2x8192x32x192, .bf16⟩
  | .hbm, ⟨13, _⟩ => ⟨S2x8192x16x2x192, .bf16⟩
  | .hbm, ⟨14, _⟩ => ⟨S_, .bf16⟩
  | .hbm, ⟨15, _⟩ => ⟨S2x8192x16x64, .bf16⟩
  | .hbm, ⟨16, _⟩ => ⟨S2x8192x16x1x192, .bf16⟩
  | .hbm, ⟨17, _⟩ => ⟨S2x8192x16x192, .bf16⟩
  | .hbm, ⟨18, _⟩ => ⟨S2x8192x16x256, .bf16⟩
  | .hbm, ⟨19, _⟩ => ⟨S2x8192x16x1x128, .bf16⟩
  | .hbm, ⟨20, _⟩ => ⟨S2x8192x16x128, .bf16⟩
  | .hbm, ⟨21, _⟩ => ⟨S2x8192x16x1x64, .bf16⟩
  | .hbm, ⟨22, _⟩ => ⟨S2x8192x16x64, .bf16⟩
  | .hbm, ⟨23, _⟩ => ⟨S2x8192x16x256, .bf16⟩
  | .hbm, ⟨24, _⟩ => ⟨S2x8192x16x512, .bf16⟩
  | .hbm, ⟨25, _⟩ => ⟨S2x8192x32x192, .bf16⟩
  | .hbm, ⟨26, _⟩ => ⟨S2x8192x16x2x192, .bf16⟩
  | .hbm, ⟨27, _⟩ => ⟨S_, .bf16⟩
  | .hbm, ⟨28, _⟩ => ⟨S2x8192x16x64, .bf16⟩
  | .hbm, ⟨29, _⟩ => ⟨S2x8192x16x1x192, .bf16⟩
  | .hbm, ⟨30, _⟩ => ⟨S2x8192x16x192, .bf16⟩
  | .hbm, ⟨31, _⟩ => ⟨S2x8192x16x256, .bf16⟩
  | .hbm, ⟨32, _⟩ => ⟨S2x8192x16x1x128, .bf16⟩
  | .hbm, ⟨33, _⟩ => ⟨S2x8192x16x128, .bf16⟩
  | .hbm, ⟨34, _⟩ => ⟨S2x8192x16x1x64, .bf16⟩
  | .hbm, ⟨35, _⟩ => ⟨S2x8192x16x64, .bf16⟩
  | .hbm, ⟨36, _⟩ => ⟨S2x8192x16x256, .bf16⟩
  | .hbm, ⟨37, _⟩ => ⟨S2x8192x16x512, .bf16⟩
  | .hbm, ⟨38, _⟩ => ⟨S2x8192x32x128, .bf16⟩
  | .hbm, ⟨39, _⟩ => ⟨S2x8192x8192, .bf16⟩
  | .hbm, ⟨40, _⟩ => ⟨S2x8192x8192, .bf16⟩
  | .hbm, ⟨41, _⟩ => ⟨S2x8192x4096, .bf16⟩
  | .hbm, ⟨42, _⟩ => ⟨S2x8192x4096, .bf16⟩
  | .local _ .vmem, ⟨0, _⟩ => ⟨S1x8192x256, .bf16⟩
  | .local _ .vmem, ⟨1, _⟩ => ⟨S1x8192x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | _, _ => ⟨S2x8192x32x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c4_i32 : BitVec 32 := 4#32
  let v7 : BitVec 32 := Scalar.addi c0_i32 c4_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c2048_i32 : BitVec 32 := 2048#32
  let v8 : BitVec 32 := Scalar.muli arg6 c2048_i32
  v8
def k0_off1 (k0_t1 : Fin k0_t1_loop.trips) : Fin 3 → Nat :=
  let c0 : Index := 0#32
  let c0_i32 : BitVec 32 := 0#32
  let c1_i32 : BitVec 32 := 1#32
  let arg6 : BitVec 32 := Scf.iv c0_i32 c1_i32 k0_t1
  let c2048_i32 : BitVec 32 := 2048#32
  let v8 : BitVec 32 := Scalar.muli arg6 c2048_i32
  let v9 : BitVec 32 := v8
  let v10 : Index := Scalar.indexCast v9
  let c0_2 : Index := 0#32
  ![0, v10.toNat, 0]
@[reducible] def k0_t2_loop (k0_t1 : Fin k0_t1_loop.trips) : Scf.Loop 32 :=
  let c0_i32_5 : BitVec 32 := 0#32
  let c0_i32 : BitVec 32 := 0#32
  let c1_i32 : BitVec 32 := 1#32
  let arg6 : BitVec 32 := Scf.iv c0_i32 c1_i32 k0_t1
  let c2_i32 : BitVec 32 := 2#32
  let v13 : BitVec 32 := Scalar.muli arg6 c2_i32
  let v17 : BitVec 32 := Scalar.subi v13 c0_i32_5
  let c1_i32_6 : BitVec 32 := 1#32
  let v19 : BitVec 32 := Scalar.divsi v17 c1_i32_6
  let v20 : BitVec 32 := Scalar.muli v19 c1_i32_6
  let v21 : BitVec 32 := Scalar.addi c0_i32_5 v20
  let c1_i32_7 : BitVec 32 := 1#32
  ⟨c0_i32_5, v21, c1_i32_7⟩
def k0_mult2 (k0_t1 : Fin k0_t1_loop.trips) (k0_t2 : Fin (k0_t2_loop k0_t1).trips) : BitVec 32 :=
  let c0_i32_5 : BitVec 32 := 0#32
  let c1_i32_7 : BitVec 32 := 1#32
  let arg7 : BitVec 32 := Scf.iv c0_i32_5 c1_i32_7 k0_t2
  let c1024_i32_42 : BitVec 32 := 1024#32
  let v133 : BitVec 32 := Scalar.muli arg7 c1024_i32_42
  v133
def k0_off2 (k0_t1 : Fin k0_t1_loop.trips) (k0_t2 : Fin (k0_t2_loop k0_t1).trips) : Fin 3 → Nat :=
  let c0_43 : Index := 0#32
  let c0_i32_5 : BitVec 32 := 0#32
  let c1_i32_7 : BitVec 32 := 1#32
  let arg7 : BitVec 32 := Scf.iv c0_i32_5 c1_i32_7 k0_t2
  let c1024_i32_42 : BitVec 32 := 1024#32
  let v133 : BitVec 32 := Scalar.muli arg7 c1024_i32_42
  let v134 : BitVec 32 := v133
  let v135 : Index := Scalar.indexCast v134
  let c0_44 : Index := 0#32
  ![0, v135.toNat, 0]
def k0_off3 (k0_t1 : Fin k0_t1_loop.trips) (k0_t2 : Fin (k0_t2_loop k0_t1).trips) : Fin 3 → Nat :=
  let c0_45 : Index := 0#32
  let c0_i32_5 : BitVec 32 := 0#32
  let c1_i32_7 : BitVec 32 := 1#32
  let arg7 : BitVec 32 := Scf.iv c0_i32_5 c1_i32_7 k0_t2
  let c1024_i32_42 : BitVec 32 := 1024#32
  let v133 : BitVec 32 := Scalar.muli arg7 c1024_i32_42
  let v134 : BitVec 32 := v133
  let v138 : Index := Scalar.indexCast v134
  let c0_46 : Index := 0#32
  ![0, v138.toNat, 0]
@[reducible] def k0_t3_loop (k0_t1 : Fin k0_t1_loop.trips) : Scf.Loop 32 :=
  let c0_i32_5 : BitVec 32 := 0#32
  let c0_i32 : BitVec 32 := 0#32
  let c1_i32 : BitVec 32 := 1#32
  let arg6 : BitVec 32 := Scf.iv c0_i32 c1_i32 k0_t1
  let c2_i32 : BitVec 32 := 2#32
  let v13 : BitVec 32 := Scalar.muli arg6 c2_i32
  let v17 : BitVec 32 := Scalar.subi v13 c0_i32_5
  let c1_i32_6 : BitVec 32 := 1#32
  let v19 : BitVec 32 := Scalar.divsi v17 c1_i32_6
  let v20 : BitVec 32 := Scalar.muli v19 c1_i32_6
  let v21 : BitVec 32 := Scalar.addi c0_i32_5 v20
  let v18 : BitVec 32 := Scalar.addi c0_i32_5 v17
  let c1_i32_8 : BitVec 32 := 1#32
  ⟨v21, v18, c1_i32_8⟩
def k0_mult3 (k0_t1 : Fin k0_t1_loop.trips) (k0_t3 : Fin (k0_t3_loop k0_t1).trips) : BitVec 32 :=
  let c0_i32_5 : BitVec 32 := 0#32
  let c0_i32 : BitVec 32 := 0#32
  let c1_i32 : BitVec 32 := 1#32
  let arg6 : BitVec 32 := Scf.iv c0_i32 c1_i32 k0_t1
  let c2_i32 : BitVec 32 := 2#32
  let v13 : BitVec 32 := Scalar.muli arg6 c2_i32
  let v17 : BitVec 32 := Scalar.subi v13 c0_i32_5
  let c1_i32_6 : BitVec 32 := 1#32
  let v19 : BitVec 32 := Scalar.divsi v17 c1_i32_6
  let v20 : BitVec 32 := Scalar.muli v19 c1_i32_6
  let v21 : BitVec 32 := Scalar.addi c0_i32_5 v20
  let c1_i32_8 : BitVec 32 := 1#32
  let arg7 : BitVec 32 := Scf.iv v21 c1_i32_8 k0_t3
  let c1024_i32_42 : BitVec 32 := 1024#32
  let v133 : BitVec 32 := Scalar.muli arg7 c1024_i32_42
  v133
def k0_off4 (k0_t1 : Fin k0_t1_loop.trips) (k0_t3 : Fin (k0_t3_loop k0_t1).trips) : Fin 3 → Nat :=
  let c0_43 : Index := 0#32
  let c0_i32_5 : BitVec 32 := 0#32
  let c0_i32 : BitVec 32 := 0#32
  let c1_i32 : BitVec 32 := 1#32
  let arg6 : BitVec 32 := Scf.iv c0_i32 c1_i32 k0_t1
  let c2_i32 : BitVec 32 := 2#32
  let v13 : BitVec 32 := Scalar.muli arg6 c2_i32
  let v17 : BitVec 32 := Scalar.subi v13 c0_i32_5
  let c1_i32_6 : BitVec 32 := 1#32
  let v19 : BitVec 32 := Scalar.divsi v17 c1_i32_6
  let v20 : BitVec 32 := Scalar.muli v19 c1_i32_6
  let v21 : BitVec 32 := Scalar.addi c0_i32_5 v20
  let c1_i32_8 : BitVec 32 := 1#32
  let arg7 : BitVec 32 := Scf.iv v21 c1_i32_8 k0_t3
  let c1024_i32_42 : BitVec 32 := 1024#32
  let v133 : BitVec 32 := Scalar.muli arg7 c1024_i32_42
  let v134 : BitVec 32 := v133
  let v135 : Index := Scalar.indexCast v134
  let c0_44 : Index := 0#32
  ![0, v135.toNat, 0]
def k0_off5 (k0_t1 : Fin k0_t1_loop.trips) (k0_t3 : Fin (k0_t3_loop k0_t1).trips) : Fin 3 → Nat :=
  let c0_45 : Index := 0#32
  let c0_i32_5 : BitVec 32 := 0#32
  let c0_i32 : BitVec 32 := 0#32
  let c1_i32 : BitVec 32 := 1#32
  let arg6 : BitVec 32 := Scf.iv c0_i32 c1_i32 k0_t1
  let c2_i32 : BitVec 32 := 2#32
  let v13 : BitVec 32 := Scalar.muli arg6 c2_i32
  let v17 : BitVec 32 := Scalar.subi v13 c0_i32_5
  let c1_i32_6 : BitVec 32 := 1#32
  let v19 : BitVec 32 := Scalar.divsi v17 c1_i32_6
  let v20 : BitVec 32 := Scalar.muli v19 c1_i32_6
  let v21 : BitVec 32 := Scalar.addi c0_i32_5 v20
  let c1_i32_8 : BitVec 32 := 1#32
  let arg7 : BitVec 32 := Scf.iv v21 c1_i32_8 k0_t3
  let c1024_i32_42 : BitVec 32 := 1024#32
  let v133 : BitVec 32 := Scalar.muli arg7 c1024_i32_42
  let v134 : BitVec 32 := v133
  let v138 : Index := Scalar.indexCast v134
  let c0_46 : Index := 0#32
  ![0, v138.toNat, 0]
def k0_mult4 (k0_t1 : Fin k0_t1_loop.trips) : BitVec 32 :=
  let c0_i32 : BitVec 32 := 0#32
  let c1_i32 : BitVec 32 := 1#32
  let arg6 : BitVec 32 := Scf.iv c0_i32 c1_i32 k0_t1
  let c2048_i32 : BitVec 32 := 2048#32
  let v8 : BitVec 32 := Scalar.muli arg6 c2048_i32
  let v9 : BitVec 32 := v8
  let c0_i32_9 : BitVec 32 := 0#32
  let v28 : BitVec 32 := Scalar.addi v9 c0_i32_9
  v28
def k0_off6 (k0_t1 : Fin k0_t1_loop.trips) (c0_i32_9 : BitVec 32) : Fin 3 → Nat :=
  let c0_10 : Index := 0#32
  let c0_i32 : BitVec 32 := 0#32
  let c1_i32 : BitVec 32 := 1#32
  let arg6 : BitVec 32 := Scf.iv c0_i32 c1_i32 k0_t1
  let c2048_i32 : BitVec 32 := 2048#32
  let v8 : BitVec 32 := Scalar.muli arg6 c2048_i32
  let v9 : BitVec 32 := v8
  let v28 : BitVec 32 := Scalar.addi v9 c0_i32_9
  let v29 : BitVec 32 := v28
  let v30 : Index := Scalar.indexCast v29
  let c0_11 : Index := 0#32
  ![0, v30.toNat, 0]
def k0_off7 (k0_t1 : Fin k0_t1_loop.trips) (c0_i32_9 : BitVec 32) : Fin 3 → Nat :=
  let c0_12 : Index := 0#32
  let c0_i32 : BitVec 32 := 0#32
  let c1_i32 : BitVec 32 := 1#32
  let arg6 : BitVec 32 := Scf.iv c0_i32 c1_i32 k0_t1
  let c2048_i32 : BitVec 32 := 2048#32
  let v8 : BitVec 32 := Scalar.muli arg6 c2048_i32
  let v9 : BitVec 32 := v8
  let v28 : BitVec 32 := Scalar.addi v9 c0_i32_9
  let v29 : BitVec 32 := v28
  let v33 : Index := Scalar.indexCast v29
  let c0_13 : Index := 0#32
  ![0, v33.toNat, 0]
def k0_mult5 (k0_t1 : Fin k0_t1_loop.trips) : BitVec 32 :=
  let c0_i32 : BitVec 32 := 0#32
  let c1_i32 : BitVec 32 := 1#32
  let arg6 : BitVec 32 := Scf.iv c0_i32 c1_i32 k0_t1
  let c2048_i32 : BitVec 32 := 2048#32
  let v8 : BitVec 32 := Scalar.muli arg6 c2048_i32
  let v9 : BitVec 32 := v8
  let c0_i32_19 : BitVec 32 := 0#32
  let v60 : BitVec 32 := Scalar.addi v9 c0_i32_19
  v60
def k0_mult6 (k0_t1 : Fin k0_t1_loop.trips) : BitVec 32 :=
  let c0_i32 : BitVec 32 := 0#32
  let c1_i32 : BitVec 32 := 1#32
  let arg6 : BitVec 32 := Scf.iv c0_i32 c1_i32 k0_t1
  let c2048_i32 : BitVec 32 := 2048#32
  let v8 : BitVec 32 := Scalar.muli arg6 c2048_i32
  let v9 : BitVec 32 := v8
  v9
def k0_off8 (k0_t1 : Fin k0_t1_loop.trips) : Fin 3 → Nat :=
  let c0_22 : Index := 0#32
  let c0_i32 : BitVec 32 := 0#32
  let c1_i32 : BitVec 32 := 1#32
  let arg6 : BitVec 32 := Scf.iv c0_i32 c1_i32 k0_t1
  let c2048_i32 : BitVec 32 := 2048#32
  let v8 : BitVec 32 := Scalar.muli arg6 c2048_i32
  let v9 : BitVec 32 := v8
  let v70 : BitVec 32 := v9
  let v71 : Index := Scalar.indexCast v70
  let c0_23 : Index := 0#32
  ![0, v71.toNat, 0]
def k0_off9 (k0_t1 : Fin k0_t1_loop.trips) : Fin 3 → Nat :=
  let c0_24 : Index := 0#32
  let c0_i32 : BitVec 32 := 0#32
  let c1_i32 : BitVec 32 := 1#32
  let arg6 : BitVec 32 := Scf.iv c0_i32 c1_i32 k0_t1
  let c2048_i32 : BitVec 32 := 2048#32
  let v8 : BitVec 32 := Scalar.muli arg6 c2048_i32
  let v9 : BitVec 32 := v8
  let v70 : BitVec 32 := v9
  let v74 : Index := Scalar.indexCast v70
  let c0_25 : Index := 0#32
  ![0, v74.toNat, 0]
def k0_mult7 (k0_t1 : Fin k0_t1_loop.trips) : BitVec 32 :=
  let c0_i32 : BitVec 32 := 0#32
  let c1_i32 : BitVec 32 := 1#32
  let arg6 : BitVec 32 := Scf.iv c0_i32 c1_i32 k0_t1
  let c2048_i32 : BitVec 32 := 2048#32
  let v8 : BitVec 32 := Scalar.muli arg6 c2048_i32
  let v9 : BitVec 32 := v8
  let c1024_i32 : BitVec 32 := 1024#32
  let v95 : BitVec 32 := Scalar.addi v9 c1024_i32
  v95
def k0_mult8 (k0_t1 : Fin k0_t1_loop.trips) : BitVec 32 :=
  let c0_i32 : BitVec 32 := 0#32
  let c1_i32 : BitVec 32 := 1#32
  let arg6 : BitVec 32 := Scf.iv c0_i32 c1_i32 k0_t1
  let c2048_i32 : BitVec 32 := 2048#32
  let v8 : BitVec 32 := Scalar.muli arg6 c2048_i32
  let v9 : BitVec 32 := v8
  let c1024_i32_39 : BitVec 32 := 1024#32
  let v127 : BitVec 32 := Scalar.addi v9 c1024_i32_39
  v127
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8192x32x192 : Shape := ⟨4, ![2, 8192, 32, 192]⟩
abbrev S2x8192x32x128 : Shape := ⟨4, ![2, 8192, 32, 128]⟩
abbrev S8192 : Shape := ⟨1, ![8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x32x8192x8192 : Shape := ⟨4, ![2, 32, 8192, 8192]⟩
abbrev S2x32x8192 : Shape := ⟨3, ![2, 32, 8192]⟩
abbrev S2x32x8192x1 : Shape := ⟨4, ![2, 32, 8192, 1]⟩
abbrev S2x32x128x8192 : Shape := ⟨4, ![2, 32, 128, 8192]⟩
abbrev S2x8192x4096 : Shape := ⟨3, ![2, 8192, 4096]⟩

abbrev nBuf : Space → Nat
  | .hbm => 73
  | .vmem => 0
  | .smem => 0
  | _ => 0

abbrev bufTy : (tb : Table) → Fin (tcTables nBuf tb) → BufTy
  | .hbm, ⟨0, _⟩ => ⟨S2x8192x32x192, .f32⟩
  | .hbm, ⟨1, _⟩ => ⟨S2x8192x32x192, .f32⟩
  | .hbm, ⟨2, _⟩ => ⟨S2x8192x32x128, .f32⟩
  | .hbm, ⟨3, _⟩ => ⟨S8192, .i32⟩
  | .hbm, ⟨4, _⟩ => ⟨S_, .i32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S1x8192, .i32⟩
  | .hbm, ⟨23, _⟩ => ⟨S_, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S2x32x8192x8192, .f32⟩
  | .hbm, ⟨46, _⟩ => ⟨S_, .f32⟩
  | .hbm, ⟨47, _⟩ => ⟨S_, .f32⟩
  | .hbm, ⟨48, _⟩ => ⟨S2x32x8192x8192, .f32⟩
  | .hbm, ⟨49, _⟩ => ⟨S2x32x8192x8192, .f32⟩
  | .hbm, ⟨50, _⟩ => ⟨S_, .f32⟩
  | .hbm, ⟨51, _⟩ => ⟨S_, .f32⟩
  | .hbm, ⟨52, _⟩ => ⟨S2x32x8192x8192, .i1⟩
  | .hbm, ⟨53, _⟩ => ⟨S2x32x8192x8192, .f32⟩
  | .hbm, ⟨54, _⟩ => ⟨S2x32x8192x8192, .f32⟩
  | .hbm, ⟨55, _⟩ => ⟨S_, .f32⟩
  | .hbm, ⟨56, _⟩ => ⟨S2x32x8192, .f32⟩
  | .hbm, ⟨57, _⟩ => ⟨S_, .f32⟩
  | .hbm, ⟨58, _⟩ => ⟨S2x32x8192, .f32⟩
  | .hbm, ⟨59, _⟩ => ⟨S2x32x8192, .f32⟩
  | .hbm, ⟨60, _⟩ => ⟨S2x32x8192x1, .f32⟩
  | .hbm, ⟨61, _⟩ => ⟨S2x32x8192x8192, .f32⟩
  | .hbm, ⟨62, _⟩ => ⟨S2x32x8192x8192, .f32⟩
  | .hbm, ⟨63, _⟩ => ⟨S2x32x8192x8192, .f32⟩
  | .hbm, ⟨64, _⟩ => ⟨S_, .f32⟩
  | .hbm, ⟨65, _⟩ => ⟨S2x32x8192, .f32⟩
  | .hbm, ⟨66, _⟩ => ⟨S2x32x8192x1, .f32⟩
  | .hbm, ⟨67, _⟩ => ⟨S2x32x8192x8192, .f32⟩
  | .hbm, ⟨68, _⟩ => ⟨S2x32x8192x8192, .f32⟩
  | .hbm, ⟨69, _⟩ => ⟨S2x32x128x8192, .f32⟩
  | .hbm, ⟨70, _⟩ => ⟨S2x8192x32x128, .f32⟩
  | .hbm, ⟨71, _⟩ => ⟨S2x8192x4096, .f32⟩
  | .hbm, ⟨72, _⟩ => ⟨S2x8192x4096, .bf16⟩
  | _, _ => ⟨S2x8192x32x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_cst : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_1 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v12 : Ref sig .tc := ⟨.hbm, 54, rfl⟩
abbrev main_cst_2 : Ref sig .tc := ⟨.hbm, 55, rfl⟩
abbrev main_v13 : Ref sig .tc := ⟨.hbm, 56, rfl⟩
abbrev main_cst_3 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_cst_4 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩

abbrev nD : Nat := 1
abbrev τ : Topo := Topo.v7x

variable {F : FTy → Type} [FloatOps F]
-- ==== Kernel2.lean ====
abbrev S16384x4096 : Shape := ⟨2, ![16384, 4096]⟩
abbrev S4096x16384 : Shape := ⟨2, ![4096, 16384]⟩
abbrev S16384x16384 : Shape := ⟨2, ![16384, 16384]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x16384, .f32⟩
  | .hbm, ⟨2, _⟩ => ⟨S16384x4096, .bf16⟩
  | .hbm, ⟨3, _⟩ => ⟨S4096x16384, .bf16⟩
  | .hbm, ⟨4, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x4096 : Shape := ⟨2, ![16384, 4096]⟩
abbrev S4096x16384 : Shape := ⟨2, ![4096, 16384]⟩
abbrev S16384x16384 : Shape := ⟨2, ![16384, 16384]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x16384, .f32⟩
  | .hbm, ⟨2, _⟩ => ⟨S16384x16384, .f32⟩
  | .hbm, ⟨3, _⟩ => ⟨S_, .f32⟩
  | .hbm, ⟨4, _⟩ => ⟨S16384x16384, .f32⟩
  | .hbm, ⟨5, _⟩ => ⟨S16384x16384, .f32⟩
  | .hbm, ⟨6, _⟩ => ⟨S16384x16384, .f32⟩
  | .hbm, ⟨7, _⟩ => ⟨S16384x16384, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel3.lean ====
abbrev S16384x16384 : Shape := ⟨2, ![16384, 16384]⟩
abbrev S16384x4096 : Shape := ⟨2, ![16384, 4096]⟩
abbrev S4x16x12288 : Shape := ⟨3, ![4, 16, 12288]⟩
abbrev S4x16x1x12288 : Shape := ⟨4, ![4, 16, 1, 12288]⟩
abbrev S1024x2048 : Shape := ⟨2, ![1024, 2048]⟩
abbrev S2048x1024 : Shape := ⟨2, ![2048, 1024]⟩
abbrev S1024x1024 : Shape := ⟨2, ![1024, 1024]⟩
abbrev S1x1x1x1024 : Shape := ⟨4, ![1, 1, 1, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16384x16384, .f32⟩
  | .hbm, ⟨1, _⟩ => ⟨S16384x4096, .f32⟩
  | .hbm, ⟨2, _⟩ => ⟨S16384x4096, .f32⟩
  | .hbm, ⟨3, _⟩ => ⟨S4x16x12288, .f32⟩
  | .hbm, ⟨4, _⟩ => ⟨S4x16x1x12288, .f32⟩
  | .hbm, ⟨5, _⟩ => ⟨S16384x16384, .bf16⟩
  | .hbm, ⟨6, _⟩ => ⟨S16384x4096, .bf16⟩
  | .hbm, ⟨7, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32_5 : BitVec 32 := 8#32
  let v18 : BitVec 32 := Scalar.addi c8_i32_5 arg1
  let c1_i32_6 : BitVec 32 := 1#32
  let c0_i32_7 : BitVec 32 := 0#32
  let c0_i32_8 : BitVec 32 := 0#32
  ![c1_i32_6.toNat, v17.toNat, c0_i32_7.toNat, v18.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S16384x16384 : Shape := ⟨2, ![16384, 16384]⟩
abbrev S16384x4096 : Shape := ⟨2, ![16384, 4096]⟩
abbrev S4x16x12288 : Shape := ⟨3, ![4, 16, 12288]⟩
abbrev S1x2x12288 : Shape := ⟨3, ![1, 2, 12288]⟩
abbrev S2x12288 : Shape := ⟨2, ![2, 12288]⟩
abbrev S2x1x12288 : Shape := ⟨3, ![2, 1, 12288]⟩
abbrev S2x1x4096 : Shape := ⟨3, ![2, 1, 4096]⟩
abbrev S2x8192x4096 : Shape := ⟨3, ![2, 8192, 4096]⟩

abbrev nBuf : Space → Nat
  | .hbm => 17
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x4096, .f32⟩
  | .hbm, ⟨2, _⟩ => ⟨S16384x4096, .f32⟩
  | .hbm, ⟨3, _⟩ => ⟨S4x16x12288, .f32⟩
  | .hbm, ⟨4, _⟩ => ⟨S1x2x12288, .f32⟩
  | .hbm, ⟨5, _⟩ => ⟨S2x12288, .f32⟩
  | .hbm, ⟨6, _⟩ => ⟨S2x1x12288, .f32⟩
  | .hbm, ⟨7, _⟩ => ⟨S2x1x4096, .f32⟩
  | .hbm, ⟨8, _⟩ => ⟨S2x1x4096, .f32⟩
  | .hbm, ⟨9, _⟩ => ⟨S2x1x4096, .f32⟩
  | .hbm, ⟨10, _⟩ => ⟨S2x8192x4096, .f32⟩
  | .hbm, ⟨11, _⟩ => ⟨S16384x4096, .f32⟩
  | .hbm, ⟨12, _⟩ => ⟨S2x8192x4096, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S16384x4096, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel4.lean ====
abbrev S16384x4096 : Shape := ⟨2, ![16384, 4096]⟩
abbrev S4096x4096 : Shape := ⟨2, ![4096, 4096]⟩
abbrev S4x16x12288 : Shape := ⟨3, ![4, 16, 12288]⟩
abbrev S4x16x1x12288 : Shape := ⟨4, ![4, 16, 1, 12288]⟩
abbrev S1024x2048 : Shape := ⟨2, ![1024, 2048]⟩
abbrev S2048x1024 : Shape := ⟨2, ![2048, 1024]⟩
abbrev S1024x1024 : Shape := ⟨2, ![1024, 1024]⟩
abbrev S1x1x1x1024 : Shape := ⟨4, ![1, 1, 1, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S4x16x12288, .f32⟩
  | .hbm, ⟨4, _⟩ => ⟨S4x16x1x12288, .f32⟩
  | .hbm, ⟨5, _⟩ => ⟨S16384x4096, .bf16⟩
  | .hbm, ⟨6, _⟩ => ⟨S4096x4096, .bf16⟩
  | .hbm, ⟨7, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32_5 : BitVec 32 := 8#32
  let v18 : BitVec 32 := Scalar.addi c8_i32_5 arg1
  let c2_i32 : BitVec 32 := 2#32
  let c0_i32_6 : BitVec 32 := 0#32
  let c0_i32_7 : BitVec 32 := 0#32
  ![c2_i32.toNat, v17.toNat, c0_i32_6.toNat, v18.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S16384x4096 : Shape := ⟨2, ![16384, 4096]⟩
abbrev S4096x4096 : Shape := ⟨2, ![4096, 4096]⟩
abbrev S4x16x12288 : Shape := ⟨3, ![4, 16, 12288]⟩
abbrev S1x2x12288 : Shape := ⟨3, ![1, 2, 12288]⟩
abbrev S2x12288 : Shape := ⟨2, ![2, 12288]⟩
abbrev S2x1x12288 : Shape := ⟨3, ![2, 1, 12288]⟩
abbrev S2x1x4096 : Shape := ⟨3, ![2, 1, 4096]⟩
abbrev S2x8192x4096 : Shape := ⟨3, ![2, 8192, 4096]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S4x16x12288, .f32⟩
  | .hbm, ⟨4, _⟩ => ⟨S1x2x12288, .f32⟩
  | .hbm, ⟨5, _⟩ => ⟨S2x12288, .f32⟩
  | .hbm, ⟨6, _⟩ => ⟨S2x1x12288, .f32⟩
  | .hbm, ⟨7, _⟩ => ⟨S2x1x4096, .f32⟩
  | .hbm, ⟨8, _⟩ => ⟨S2x1x4096, .f32⟩
  | .hbm, ⟨9, _⟩ => ⟨S2x1x4096, .f32⟩
  | .hbm, ⟨10, _⟩ => ⟨S2x8192x4096, .f32⟩
  | .hbm, ⟨11, _⟩ => ⟨S16384x4096, .f32⟩
  | .hbm, ⟨12, _⟩ => ⟨S2x8192x4096, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel5.lean ====
abbrev S16384x2048 : Shape := ⟨2, ![16384, 2048]⟩
abbrev S4096x4096 : Shape := ⟨2, ![4096, 4096]⟩
abbrev S16384x4096 : Shape := ⟨2, ![16384, 4096]⟩
abbrev S4x16x12288 : Shape := ⟨3, ![4, 16, 12288]⟩
abbrev S4x16x1x12288 : Shape := ⟨4, ![4, 16, 1, 12288]⟩
abbrev S1024x2048 : Shape := ⟨2, ![1024, 2048]⟩
abbrev S2048x1024 : Shape := ⟨2, ![2048, 1024]⟩
abbrev S1024x1024 : Shape := ⟨2, ![1024, 1024]⟩
abbrev S1x1x1x1024 : Shape := ⟨4, ![1, 1, 1, 1024]⟩
abbrev S1x1024 : Shape := ⟨2, ![1, 1024]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S4096x4096, .f32⟩
  | .hbm, ⟨3, _⟩ => ⟨S16384x4096, .f32⟩
  | .hbm, ⟨4, _⟩ => ⟨S4x16x12288, .f32⟩
  | .hbm, ⟨5, _⟩ => ⟨S4x16x1x12288, .f32⟩
  | .hbm, ⟨6, _⟩ => ⟨S16384x2048, .bf16⟩
  | .hbm, ⟨7, _⟩ => ⟨S16384x2048, .bf16⟩
  | .hbm, ⟨8, _⟩ => ⟨S4096x4096, .bf16⟩
  | .hbm, ⟨9, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 2], ![false, false, false]⟩

def k0_cond4 (i : grid0.Coords) : BitVec 1 :=
  let arg2 : BitVec 32 := BitVec.ofNat 32 (i 2).val
  let c1_i32_5 : BitVec 32 := 1#32
  let v11 : BitVec 1 := Scalar.cmpi .eq arg2 c1_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32_5 : BitVec 32 := 8#32
  let v18 : BitVec 32 := Scalar.addi c8_i32_5 arg1
  let c0_i32_6 : BitVec 32 := 0#32
  let c0_i32_7 : BitVec 32 := 0#32
  let c0_i32_8 : BitVec 32 := 0#32
  ![c0_i32_6.toNat, v17.toNat, c0_i32_7.toNat, v18.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference5Ideal.lean ====
abbrev S16384x2048 : Shape := ⟨2, ![16384, 2048]⟩
abbrev S4096x4096 : Shape := ⟨2, ![4096, 4096]⟩
abbrev S16384x4096 : Shape := ⟨2, ![16384, 4096]⟩
abbrev S4x16x12288 : Shape := ⟨3, ![4, 16, 12288]⟩
abbrev S1x2x12288 : Shape := ⟨3, ![1, 2, 12288]⟩
abbrev S2x12288 : Shape := ⟨2, ![2, 12288]⟩
abbrev S2x1x12288 : Shape := ⟨3, ![2, 1, 12288]⟩
abbrev S2x1x4096 : Shape := ⟨3, ![2, 1, 4096]⟩
abbrev S2x8192x4096 : Shape := ⟨3, ![2, 8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S4096x4096, .f32⟩
  | .hbm, ⟨3, _⟩ => ⟨S16384x4096, .f32⟩
  | .hbm, ⟨4, _⟩ => ⟨S4x16x12288, .f32⟩
  | .hbm, ⟨5, _⟩ => ⟨S1x2x12288, .f32⟩
  | .hbm, ⟨6, _⟩ => ⟨S2x12288, .f32⟩
  | .hbm, ⟨7, _⟩ => ⟨S2x1x12288, .f32⟩
  | .hbm, ⟨8, _⟩ => ⟨S2x1x4096, .f32⟩
  | .hbm, ⟨9, _⟩ => ⟨S2x1x4096, .f32⟩
  | .hbm, ⟨10, _⟩ => ⟨S2x1x4096, .f32⟩
  | .hbm, ⟨11, _⟩ => ⟨S16384x4096, .f32⟩
  | .hbm, ⟨12, _⟩ => ⟨S16384x4096, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S2x8192x4096, .f32⟩
  | .hbm, ⟨18, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S16384x4096 : Shape := ⟨2, ![16384, 4096]⟩
abbrev S4096x2048 : Shape := ⟨2, ![4096, 2048]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x2048, .f32⟩
  | .hbm, ⟨2, _⟩ => ⟨S16384x4096, .bf16⟩
  | .hbm, ⟨3, _⟩ => ⟨S4096x2048, .bf16⟩
  | .hbm, ⟨4, _⟩ => ⟨S16384x2048, .bf16⟩
  | .hbm, ⟨5, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x2048, .f32⟩
  | .hbm, ⟨2, _⟩ => ⟨S16384x2048, .f32⟩
  | .hbm, ⟨3, _⟩ => ⟨S16384x2048, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.LatentLoop.lean ====
/-
  The latent attention's outer loop, for any float values: one trip takes a tile of 2048 queries through the
  keys before it and writes its two blocks of 1024 output rows. A trip is run once, at a symbolic trip number;
  what it writes is collected as a list of pieces, and the loop's invariant says that the output holds the
  pieces of the trips so far.
-/
module

public import proofs.«01_k».proof.Proof.Gen.KernelIdeal.Frame
public import proofs.«01_k».proof.Proof.Gen.KernelIdeal.Loops

@[expose] public section

noncomputable section

namespace Cert.Proof.Latent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a trip touches: the queries, keys and values at their contents, the output at `f`. -/
abbrev Held (c : Dev nD) (arg2 arg3 : Memref sig .tc .vmem S1x8192x256 .bf16) (arg4 arg5 : Memref sig .tc .vmem S1x8192x128 .bf16)
    (q : BufTy.Contents (Elt F) arg2.view.ty) (k : BufTy.Contents (Elt F) arg3.view.ty) (v : BufTy.Contents (Elt F) arg4.view.ty)
    (f : BufTy.Contents (Elt F) arg5.view.ty) : sProp 𝕄 :=
  iprop((arg2.view.loc (c : Thread nD τ) ↦[arg2.view.set]{fullShare} q) ∗ (arg3.view.loc (c : Thread nD τ) ↦[arg3.view.set]{fullShare} k)
    ∗ (arg4.view.loc (c : Thread nD τ) ↦[arg4.view.set]{fullShare} v) ∗ (arg5.view.loc (c : Thread nD τ) ↦[arg5.view.set]{fullShare} f))

section Trip

variable (c : Dev nD) (i : grid0.Coords) (arg2 : Memref sig .tc .vmem S1x8192x256 .bf16) (harg2 : arg2.IsWhole)
  (arg3 : Memref sig .tc .vmem S1x8192x256 .bf16) (harg3 : arg3.IsWhole) (arg4 : Memref sig .tc .vmem S1x8192x128 .bf16) (harg4 : arg4.IsWhole)
  (arg5 : Memref sig .tc .vmem S1x8192x128 .bf16) (harg5 : arg5.IsWhole)
  (q : BufTy.Contents (Elt F) arg2.view.ty) (k : BufTy.Contents (Elt F) arg3.view.ty) (v : BufTy.Contents (Elt F) arg4.view.ty)

/-- One trip writes a list of pieces that does not depend on what the output held. -/
@[irreducible] def trip (t : Fin k0_t1_loop.trips) :
    { L : List (View.Piece (Elt F) S1x8192x128 .bf16) // ∀ (E : Set ℕ) (a : Unit) (f : BufTy.Contents (Elt F) arg5.view.ty),
      Held c arg2 arg3 arg4 arg5 q k v f
      ⊢ wp frame (wpE (defs₀ (F := F)) Variants.none (c : Thread nD τ) none) E (k0_t1_body (F := F) i arg2 harg2 arg3 harg3 arg4 harg4 arg5 harg5 t a)
          (fun _ => Held c arg2 arg3 arg4 arg5 q k v (arg5.view.writes (Elt F) f L)) } := by
  refine ⟨?_, fun E a f => ?run⟩
  case run =>
    unfold k0_t1_body
    iintro ⟨Hq, Hk, Hv, Ho⟩
    sl_exec
    sl_step
    sl_close

end Trip

/-! ## What a trip writes, from the three arrays -/

section Value

variable (xq : S1x8192x256.Idx → Elt F .bf16) (xk : S1x8192x256.Idx → Elt F .bf16) (xv : S1x8192x128.Idx → Elt F .bf16)

/-- Trip `t`'s 2048 queries. -/
abbrev qTile (t : Fin k0_t1_loop.trips) : Vec F S1x2048x256 .bf16 :=
  View.ld xq (Rect.unit (s := S1x8192x256) (k0_off1 t) S1x2048x256.size (k0_off1_inb t))

/-- The running maximum, denominator and numerator after `n` whole blocks of 1024 keys. -/
def carried (t : Fin k0_t1_loop.trips) : ℕ → FVec F S1x2048 .f32 × FVec F S1x2048 .f32 × FVec F S128x2048 .f32
  | 0 => (k0_pay4, k0_pay5, k0_pay6)
  | n + 1 => if h : n < (k0_t2_loop t).trips then
      let kb := View.ld xk (Rect.unit (s := S1x8192x256) (k0_off2 t ⟨n, h⟩) S1x1024x256.size (k0_off2_inb t ⟨n, h⟩))
      let vb := View.ld xv (Rect.unit (s := S1x8192x128) (k0_off3 t ⟨n, h⟩) S1x1024x128.size (k0_off3_inb t ⟨n, h⟩))
      let p := carried t n
      (k0_pay8 (qTile xq t) p.1 kb, k0_pay11 (qTile xq t) p.1 p.2.1 kb, k0_pay12 (qTile xq t) p.1 p.2.2 kb vb)
    else carried t n

/-- The state after the whole blocks before the tile. -/
abbrev before (t : Fin k0_t1_loop.trips) : FVec F S1x2048 .f32 × FVec F S1x2048 .f32 × FVec F S128x2048 .f32 :=
  carried xq xk xv t (k0_t2_loop t).trips

/-- The tile's first 1024 output rows. -/
def outLo (t : Fin k0_t1_loop.trips) : FVec F S1x1024x128 .bf16 :=
  let p := before xq xk xv t
  let kb := View.ld xk (Rect.unit (s := S1x8192x256) (k0_off6 t 0#32) S1x1024x256.size (k0_off6_inb t 0))
  let vb := View.ld xv (Rect.unit (s := S1x8192x128) (k0_off7 t 0#32) S1x1024x128.size (k0_off7_inb t 0))
  k0_pay27 (k0_pay20 p.2.2) (k0_pay21 vb) (k0_pay24 k0_pay1 (qTile xq t) p.1 kb) (k0_pay25 k0_pay1 (qTile xq t) p.1 kb)
    (k0_pay26 k0_pay1 (qTile xq t) p.1 p.2.1 kb)

/-- The tile's last 1024 output rows. -/
def outHi (t : Fin k0_t1_loop.trips) : FVec F S1x1024x128 .bf16 :=
  let p := before xq xk xv t
  let qt := k0_pay3 (qTile xq t)
  let kf := View.ld xk (Rect.unit (s := S1x8192x256) (k0_off8 t) S1x1024x256.size (k0_off8_inb t))
  let vf := View.ld xv (Rect.unit (s := S1x8192x128) (k0_off9 t) S1x1024x128.size (k0_off9_inb t))
  let kb := View.ld xk (Rect.unit (s := S1x8192x256) (k0_off6 t 1024#32) S1x1024x256.size (k0_off6_inb t 1))
  let vb := View.ld xv (Rect.unit (s := S1x8192x128) (k0_off7 t 1024#32) S1x1024x128.size (k0_off7_inb t 1))
  k0_pay2 (k0_pay29 qt) (k0_pay31 qt p.1 kf) (k0_pay34 qt p.1 p.2.1 kf) (k0_pay35 qt p.1 p.2.2 kf) (k0_pay36 qt p.1 kf vf) kb vb

/-- A trip's two pieces, the later first. -/
def pieces (t : Fin k0_t1_loop.trips) : List (View.Piece (Elt F) S1x8192x128 .bf16) :=
  [⟨Rect.unit (s := S1x8192x128) (k0_off7 t 1024#32) S1x1024x128.size (k0_off7_inb t 1), outHi xq xk xv t⟩,
   ⟨Rect.unit (s := S1x8192x128) (k0_off7 t 0#32) S1x1024x128.size (k0_off7_inb t 0), outLo xq xk xv t⟩]

/-- The pieces of the trips before `n`. -/
def piecesUpTo : ℕ → List (View.Piece (Elt F) S1x8192x128 .bf16)
  | 0 => []
  | n + 1 => (if h : n < k0_t1_loop.trips then pieces xq xk xv ⟨n, h⟩ else []) ++ piecesUpTo n

theorem piecesUpTo_succ (t : Fin k0_t1_loop.trips) :
    piecesUpTo xq xk xv (t.val + 1) = pieces xq xk xv t ++ piecesUpTo xq xk xv t.val := by
  rw [piecesUpTo, dif_pos t.isLt]

end Value

/-- The remainder loop makes no trip: the key block divides the tile. -/
theorem no_remainder (t : Fin k0_t1_loop.trips) : (k0_t3_loop t).trips = 0 := by
  revert t; decide

section Trip

variable (c : Dev nD) (i : grid0.Coords) (arg2 : Memref sig .tc .vmem S1x8192x256 .bf16) (harg2 : arg2.IsWhole)
  (arg3 : Memref sig .tc .vmem S1x8192x256 .bf16) (harg3 : arg3.IsWhole) (arg4 : Memref sig .tc .vmem S1x8192x128 .bf16) (harg4 : arg4.IsWhole)
  (arg5 : Memref sig .tc .vmem S1x8192x128 .bf16) (harg5 : arg5.IsWhole)
  (q : BufTy.Contents (Elt F) arg2.view.ty) (k : BufTy.Contents (Elt F) arg3.view.ty) (v : BufTy.Contents (Elt F) arg4.view.ty)

/-- What the key loop carries is the value above. -/
theorem st_eq (t : Fin k0_t1_loop.trips) (n : ℕ) :
    st_k0_t2 (F := F) Variants.none c none i arg2 harg2 arg3 harg3 arg4 harg4 arg5 harg5 k0_pay1 0#32 1#32 t
        (qTile (arg2.view.read (Elt F) q) t) k v (k0_pay4, k0_pay5, k0_pay6) n
      = carried (arg2.view.read (Elt F) q) (arg3.view.read (Elt F) k) (arg4.view.read (Elt F) v) t n := by
  induction n with
  | zero => rfl
  | succ n ih =>
    rw [st_k0_t2.eq_2, carried, ih]
    unfold st_k0_t2Step
    by_cases h : n < (k0_t2_loop t).trips
    · rw [dif_pos h, dif_pos h]
      unfold tripR_k0_t2 trip_k0_t2
      rfl
    · rw [dif_neg h, dif_neg h]

/-- The pieces a trip was found to write are the two above. -/
theorem trip_eq (t : Fin k0_t1_loop.trips) :
    (trip c i arg2 harg2 arg3 harg3 arg4 harg4 arg5 harg5 q k v t).1
      = pieces (arg2.view.read (Elt F) q) (arg3.view.read (Elt F) k) (arg4.view.read (Elt F) v) t := by
  have key : ∀ s : FVec F S1x2048 .f32 × FVec F S1x2048 .f32 × FVec F S128x2048 .f32,
      st_k0_t3 (F := F) Variants.none c none i arg2 harg2 arg3 harg3 arg4 harg4 arg5 harg5 k0_pay1 0#32 1#32 t
        (qTile (arg2.view.read (Elt F) q) t) k v s (k0_t3_loop t).trips = s := fun s => by rw [no_remainder]; rfl
  have e := (key _).trans (st_eq c i arg2 harg2 arg3 harg3 arg4 harg4 arg5 harg5 q k v t (k0_t2_loop t).trips)
  unfold pieces outHi outLo before
  rw [← e]
  unfold trip
  rfl

/-- One trip of the loop, with the pieces it writes. -/
theorem trip_spec (t : Fin k0_t1_loop.trips) (E : Set ℕ) (a : Unit) (f : BufTy.Contents (Elt F) arg5.view.ty) :
    Held c arg2 arg3 arg4 arg5 q k v f
      ⊢ wp frame (wpE (defs₀ (F := F)) Variants.none (c : Thread nD τ) none) E (k0_t1_body (F := F) i arg2 harg2 arg3 harg3 arg4 harg4 arg5 harg5 t a)
          (fun _ => Held c arg2 arg3 arg4 arg5 q k v (arg5.view.writes (Elt F) f
            (pieces (arg2.view.read (Elt F) q) (arg3.view.read (Elt F) k) (arg4.view.read (Elt F) v) t))) := by
  rw [← trip_eq c i arg2 harg2 arg3 harg3 arg4 harg4 arg5 harg5 q k v t]
  exact (trip c i arg2 harg2 arg3 harg3 arg4 harg4 arg5 harg5 q k v t).2 E a f

/-- The outer loop by its invariant: before trip `n` the output holds the pieces of the trips so far over what it
    held at first. -/
@[sl_loop, instance_reducible] def outerLoop (E : Set ℕ) (f : BufTy.Contents (Elt F) arg5.view.ty) :
    LoopInvTy_k0_t1 (F := F) Unit ℕ (UR sig nD τ) ℕ Variants.none c none E i arg2 harg2 arg3 harg3 arg4 harg4 arg5 harg5 where
  inv n _ := Held c arg2 arg3 arg4 arg5 q k v (arg5.view.writes (Elt F) f
    (piecesUpTo (arg2.view.read (Elt F) q) (arg3.view.read (Elt F) k) (arg4.view.read (Elt F) v) n))
  step t a := by
    rw [piecesUpTo_succ, View.writes_append]
    exact trip_spec c i arg2 harg2 arg3 harg3 arg4 harg4 arg5 harg5 q k v t E a _

end Trip

end Cert.Proof.Latent

end
-- ==== Proof.LatentRun.lean ====
/-
  The latent attention's run, for any float values: the body at a generic grid point, what it leaves in the
  output's block, the library's obligations, and from them the run of the whole program — every result, every
  argument, every counter — and the frame.
-/
module

public import proofs.«01_k».proof.Proof.LatentLoop
public import Idealize.ShloMosaic.Lib.Claim

@[expose] public section

set_option maxRecDepth 16384

noncomputable section

namespace Cert.Proof.Latent

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The eight blocks of 1024 rows the four trips write. -/
abbrev allPieces (xq xk : S1x8192x256.Idx → Elt F .bf16) (xv : S1x8192x128.Idx → Elt F .bf16) :
    List (View.Piece (Elt F) S1x8192x128 .bf16) :=
  piecesUpTo xq xk xv k0_t1_loop.trips

/-- The output block of a head, from the head's queries, keys and values. -/
def head (xq xk : S1x8192x256.Idx → Elt F .bf16) (xv : S1x8192x128.Idx → Elt F .bf16) : S1x8192x128.Idx → Elt F .bf16 :=
  View.canon (allPieces xq xk xv)

/-- The blocks written cover the output block. -/
theorem covered (xq xk : S1x8192x256.Idx → Elt F .bf16) (xv : S1x8192x128.Idx → Elt F .bf16) (y : S1x8192x128.Idx) :
    ∃ p ∈ allPieces xq xk xv, y ∈ p.1.set :=
  View.cover_of_tiled (allPieces xq xk xv) S1x1024x128.size (by rfl) y

/-- The body, on whole buffers holding a head's queries, keys and values, leaves those as they were and the head's
    output in the output buffer. -/
theorem body_triple (c : Dev nD) (E : Set ℕ) (i : grid0.Coords) (arg2 : Memref sig .tc .vmem S1x8192x256 .bf16) (harg2 : arg2.IsWhole)
    (arg3 : Memref sig .tc .vmem S1x8192x256 .bf16) (harg3 : arg3.IsWhole) (arg4 : Memref sig .tc .vmem S1x8192x128 .bf16) (harg4 : arg4.IsWhole)
    (arg5 : Memref sig .tc .vmem S1x8192x128 .bf16) (harg5 : arg5.IsWhole) (xq xk : S1x8192x256.Idx → Elt F .bf16)
    (xv : S1x8192x128.Idx → Elt F .bf16) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d)
        ∗ (iprop(owns (c : Thread nD τ) arg2 fullShare xq ∗ owns (c : Thread nD τ) arg3 fullShare xk ∗ owns (c : Thread nD τ) arg4 fullShare xv
            ∗ owns (c : Thread nD τ) arg5 fullShare (head xq xk xv)) -∗ K ⟨⟩))
      ⊢ wp frame (wpE (defs₀ (F := F)) Variants.none c none) E (cc0_latent_attn i arg2 harg2 arg3 harg3 arg4 harg4 arg5 harg5) K := by
  simp only [cc0_latent_attn_eq_skeleton]; unfold cc0_latent_attn_skel
  unfold owns
  iintro ⟨⟨%fq, %hq, Hq⟩, ⟨%fk, %hk, Hk⟩, ⟨%fv, %hv, Hv⟩, ⟨%d, %fo, -, Ho⟩, Hret⟩
  subst hq hk hv
  sl_exec
  sl_step
  iapply Hret
  isplitl [Hq]
  · iexists fq; isplitr; · ipureintro; rfl
    iexact Hq
  isplitl [Hk]
  · iexists fk; isplitr; · ipureintro; rfl
    iexact Hk
  isplitl [Hv]
  · iexists fv; isplitr; · ipureintro; rfl
    iexact Hv
  iexists _; isplitr
  swap; · iexact Ho
  ipureintro
  exact View.read_writes_eq_canon _ _ _ (covered _ _ _)

variable (m : (ℓ : Loc nD τ sig) → Buf (Elt F) ℓ) (ρ : Dev nD → PrngReg)

/-- The pipeline's data: each input's buffer at its block after the body, the output's at the head's output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => head (iblk m c 0 t) (iblk m c 1 t) (iblk m c 2 t)
  Φ _ := Pipeline.ΦA spec0 c
  q _ := fullShare
  owed _ := 0

/-- The arrays are what the region finds. -/
theorem dats_A (c : Dev nD) (w : Fin cfg0.W) : (dats m 0 c).A w = V m c (Pipeline.arrRef spec0 w) := by dsimp only [dats]

/-- After the body an input's buffer holds its block, -/
theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
/-- and the output's the head's output. -/
theorem after_o (c : Dev nD) (t : Fin cfg0.N) :
    (dats m 0 c).after 3 t = head (iblk m c 0 t) (iblk m c 1 t) (iblk m c 2 t) := by dsimp only [dats]

/-- Before the body an input's buffer holds its block. -/
theorem before_q (c : Dev nD) (t : Fin cfg0.N) (d) : (dats m 0 c).before 0 t d = iblk m c 0 t :=
  before0_0_of m (dats m 0 c) (dats_A m c 0) (after_q m c) t d
theorem before_k (c : Dev nD) (t : Fin cfg0.N) (d) : (dats m 0 c).before 1 t d = iblk m c 1 t :=
  before0_1_of m (dats m 0 c) (dats_A m c 1) (after_k m c) t d
theorem before_v (c : Dev nD) (t : Fin cfg0.N) (d) : (dats m 0 c).before 2 t d = iblk m c 2 t :=
  before0_2_of m (dats m 0 c) (dats_A m c 2) (after_v m c) t d

/-- What the body is given at point `t`, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it gives back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point, by its triple. -/
theorem body_at (c : Dev nD) (t : Fin cfg0.N) :
    given m c t ⊢ wp frame (wpE (defs₀ (F := F)) Variants.none c none) Set.univ (bodyAt0 t) (fun _ => returned m c t) := by
  unfold given returned bodyAt0
  simp only [before_q, before_k, before_v]
  rw [show (dats m 0 c).Φ t.succ = (dats m 0 c).Φ t.castSucc from rfl,
    show (dats m 0 c).owesAt () t.succ = (dats m 0 c).owesAt () t.castSucc from rfl, after_q, after_k, after_v, after_o]
  iintro ⟨HΦ, Howe, ⟨%dq, Hq⟩, ⟨%dk, Hk⟩, ⟨%dv, Hv⟩, ⟨%d, Ho⟩⟩
  iapply (body_triple c Set.univ _ _ _ _ _ _ _ _ _ (iblk m c 0 t) (iblk m c 1 t) (iblk m c 2 t) _)
  isplitl [Hq]; · iexact Hq
  isplitl [Hk]; · iexact Hk
  isplitl [Hv]; · iexact Hv
  isplitl [Ho]; · iexists _; iexact Ho
  iintro ⟨Hq, Hk, Hv, Ho⟩
  isplitl [HΦ]; · iexact HΦ
  isplitl [Howe]; · iexact Howe
  isplitl [Hq]; · iexact Hq
  isplitl [Hk]; · iexact Hk
  isplitl [Hv]; · iexact Hv
  iexact Ho

/-- The pipeline's row for point `t` is the body as spelt above. -/
theorem row (t : Fin cfg0.N) : defs₀ (F := F) .tc cfg0.body (cfg0.bodyArgs t (cfg0.slots t)) = bodyAt0 t := by
  unfold defs₀; rw [Defs.onTc_tc]

/-- The library's obligation on the body, at every point. -/
theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
/-- The run: it ends, with every array at what the data say, every other buffer as the region found it, and every
    counter at zero. -/
theorem run_quiet : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The run without the counters. -/
theorem run : θ_run defs (onTc (τ := τ) (main (F := F))) (s₀ m ρ) (Pipeline.FramePost cfgs (dats m) 0 (V m)) :=
  (θ_run defs _ _).mono (fun _ h => h.1) (run_quiet m ρ)

/-- The frame: the arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) (run m ρ)) ((θ_run defs _ _).mono (fun _ h => h.2) (run_quiet m ρ))

end Cert.Proof.Latent

end
-- ==== Proof.LatentFrames.lean ====
/-
  The latent attention's frames. The kernel's program and its idealization have one text, so the run of the
  idealization's program at bit values is the kernel's.
-/
module

public import proofs.«01_k».proof.Defs
public import proofs.«01_k».proof.Proof.Gen.Kernel
public import proofs.«01_k».proof.Proof.LatentRun

@[expose] public section

noncomputable section

namespace Cert.Proof.Latent

open Idealize.ShloMosaic Idealize.SL.Sem

/-- One kernel function, under two names. -/
theorem body_same : @Cert.Kernel.cc0_latent_attn Bits _ _ = @Cert.KernelIdeal.cc0_latent_attn Bits _ _ := rfl

/-- Hence one body table, -/
theorem table_same : Cert.Kernel.defs₀ (F := Bits) = Cert.KernelIdeal.defs₀ (F := Bits) := by
  unfold Cert.Kernel.defs₀ Cert.KernelIdeal.defs₀
  congr 1
  funext l a
  match l, a with
  | 0, a => exact congrFun (congrFun (congrFun (congrFun (congrFun (congrFun (congrFun (congrFun (congrFun body_same _) _) _) _) _) _) _) _) _

theorem defs_same : Cert.Kernel.defs (F := Bits) = Cert.KernelIdeal.defs (F := Bits) :=
  congrArg (Pipeline.defs Cert.KernelIdeal.pcfgs) table_same

/-- and one main. -/
theorem main_same : Cert.Kernel.main (F := Bits) = Cert.KernelIdeal.main (F := Bits) := rfl

/-- The kernel's frame. -/
theorem frame_kernel : Cert.quiescent_Kernel := fun m ρ _ => by
  rw [defs_same, main_same]
  exact frame_run (F := Bits) m ρ

/-- The idealized kernel's frame. -/
theorem frame_ideal : Cert.quiescent_KernelIdeal := fun m ρ _ => frame_run (F := Ideal) m ρ

end Cert.Proof.Latent

end
-- ==== Proof.Softmax.lean ====
/-
  A softmax built up block by block, over the extended reals: the running maximum, denominator and numerator over
  a set of keys, what one more block does to them, and the quotient at the end as the softmax of the whole row.
-/
module

public import Idealize.ShloMosaic.PureOps.Ideal
public import Mathlib.Data.EReal.Operations
public import Mathlib.Analysis.SpecialFunctions.Pow.Real

@[expose] public section

namespace Cert.Proof.Softmax

open Idealize.ShloMosaic

/-! ## Sums and positive factors -/

/-- A nonnegative real factor passes through a finite sum, whatever the terms. -/
theorem coe_mul_sum {ι : Type} (A : Finset ι) (r : ℝ) (hr : 0 ≤ r) (f : ι → EReal) :
    (r : EReal) * ∑ j ∈ A, f j = ∑ j ∈ A, (r : EReal) * f j := by
  classical
  induction A using Finset.induction_on with
  | empty => simp
  | insert a A ha ih => rw [Finset.sum_insert ha, Finset.sum_insert ha, EReal.left_distrib_of_nonneg_of_ne_top (EReal.coe_nonneg.2 hr) (EReal.coe_ne_top r), ih]

/-- A finite sum of reals, read as an extended real. -/
theorem coe_sum {ι : Type} (A : Finset ι) (f : ι → ℝ) : ((∑ j ∈ A, f j : ℝ) : EReal) = ∑ j ∈ A, (f j : EReal) := by
  classical
  induction A using Finset.induction_on with
  | empty => simp
  | insert a A ha ih => rw [Finset.sum_insert ha, Finset.sum_insert ha, EReal.coe_add, ih]

/-- The least upper bound of finitely many values short of `⊤` is short of `⊤`. -/
theorem sup_ne_top {ι : Type} (A : Finset ι) (s : ι → EReal) (h : ∀ j ∈ A, s j ≠ ⊤) : A.sup s ≠ ⊤ :=
  ((Finset.sup_lt_iff bot_lt_top).2 fun j hj => lt_top_iff_ne_top.2 (h j hj)).ne

/-! ## The state over a set of keys -/

variable {ι : Type} [DecidableEq ι] (s v : ι → EReal)

/-- Over the keys `A`: the greatest score, the sum of the weights and the weighted sum of the values, each weight
    relative to that greatest score. -/
structure State (A : Finset ι) (m l a : EReal) : Prop where
  max_eq : m = A.sup s
  den_eq : l = ∑ j ∈ A, Ideal.exp2 (s j - m)
  num_eq : a = ∑ j ∈ A, v j * Ideal.exp2 (s j - m)

/-- Over no keys. -/
theorem State.empty : State s v ∅ ⊥ 0 0 := ⟨by simp, by simp, by simp⟩

/-- The factor that moves a weight from one maximum to a greater one. -/
theorem exp2_shift (x : EReal) (r r' : ℝ) (hx : x ≠ ⊤) :
    Ideal.exp2 ((r : EReal) - r') * Ideal.exp2 (x - r) = Ideal.exp2 (x - r') := by
  induction x using EReal.rec with
  | bot => simp
  | top => exact absurd rfl hx
  | coe x =>
    rw [← EReal.coe_sub, ← EReal.coe_sub, ← EReal.coe_sub, Ideal.exp2_coe, Ideal.exp2_coe, Ideal.exp2_coe, ← EReal.coe_mul]
    congr 1
    show (2 : ℝ) ^ (r - r') * (2 : ℝ) ^ (x - r) = (2 : ℝ) ^ (x - r')
    rw [← Real.rpow_add (by norm_num)]
    congr 1
    ring

variable {s v}

/-- Moving the state of `A` to a maximum at least its own. -/
theorem State.move {A : Finset ι} {m l a : EReal} (h : State s v A m l a) (hs : ∀ j, s j ≠ ⊤) (m' : EReal) (hm : m ≤ m') (hm' : m' ≠ ⊤) :
    Ideal.exp2 (m - m') * l = ∑ j ∈ A, Ideal.exp2 (s j - m')
      ∧ Ideal.exp2 (m - m') * a = ∑ j ∈ A, v j * Ideal.exp2 (s j - m') := by
  have hmt : m ≠ ⊤ := h.max_eq ▸ sup_ne_top A s fun j _ => hs j
  have hle : ∀ j ∈ A, s j ≤ m := fun j hj => h.max_eq ▸ Finset.le_sup hj
  induction m using EReal.rec with
  | top => exact absurd rfl hmt
  | bot =>
    have hz : ∀ j ∈ A, Ideal.exp2 (s j - m') = 0 := fun j hj => by rw [le_bot_iff.1 (hle j hj), EReal.bot_sub, Ideal.exp2_bot]
    rw [EReal.bot_sub, Ideal.exp2_bot, zero_mul, zero_mul]
    exact ⟨(Finset.sum_eq_zero hz).symm, (Finset.sum_eq_zero fun j hj => by rw [hz j hj, mul_zero]).symm⟩
  | coe r =>
    induction m' using EReal.rec with
    | top => exact absurd rfl hm'
    | bot => exact absurd (le_bot_iff.1 hm) (EReal.coe_ne_bot r)
    | coe r' =>
      have hf : Ideal.exp2 ((r : EReal) - r') = ((2 : ℝ) ^ (r - r') : ℝ) := by rw [← EReal.coe_sub]; rfl
      have hp : (0 : ℝ) ≤ (2 : ℝ) ^ (r - r') := by positivity
      constructor
      · rw [h.den_eq, hf, coe_mul_sum A _ hp]
        refine Finset.sum_congr rfl fun j _ => ?_
        rw [← hf, exp2_shift _ _ _ (hs j)]
      · rw [h.num_eq, hf, coe_mul_sum A _ hp]
        refine Finset.sum_congr rfl fun j _ => ?_
        rw [← hf, mul_left_comm, exp2_shift _ _ _ (hs j)]

/-- One more block of keys, listed by `f`, none of them seen before. -/
theorem State.step {A : Finset ι} {m l a : EReal} (h : State s v A m l a) (hs : ∀ j, s j ≠ ⊤) {κ : Type} [Fintype κ] (f : κ → ι)
    (hf : Function.Injective f) (hA : ∀ i, f i ∉ A) (m' : EReal) (hm' : m' = max m (Finset.univ.sup fun i => s (f i))) :
    State s v (A ∪ Finset.univ.map ⟨f, hf⟩) m'
      (Ideal.exp2 (m - m') * l + ∑ i, Ideal.exp2 (s (f i) - m'))
      (Ideal.exp2 (m - m') * a + ∑ i, v (f i) * Ideal.exp2 (s (f i) - m')) := by
  have hsup : m' = (A ∪ Finset.univ.map ⟨f, hf⟩).sup s := by
    rw [Finset.sup_union, Finset.sup_map, hm', h.max_eq]; rfl
  have hd : Disjoint A (Finset.univ.map ⟨f, hf⟩) := by
    rw [Finset.disjoint_right]
    intro x hx
    obtain ⟨i, -, rfl⟩ := Finset.mem_map.1 hx
    exact hA i
  obtain ⟨hl, ha⟩ := h.move hs m' (hm' ▸ le_max_left _ _) (hsup ▸ sup_ne_top _ s fun j _ => hs j)
  refine ⟨hsup, ?_, ?_⟩
  · rw [hl, Finset.sum_union hd, Finset.sum_map]; rfl
  · rw [ha, Finset.sum_union hd, Finset.sum_map]; rfl

/-! ## The end: the quotient is the softmax -/

/-- `2 ^ y` at a difference of reals is the exponential at `log 2` times it. -/
theorem exp_scaled (y r : ℝ) : Ideal.exp (((y * Real.log 2 : ℝ) : EReal) - ((r * Real.log 2 : ℝ) : EReal)) = Ideal.exp2 ((y : EReal) - r) := by
  rw [← EReal.coe_sub, ← EReal.coe_sub, Ideal.exp_coe, Ideal.exp2_coe]
  congr 1
  show Real.exp (y * Real.log 2 - r * Real.log 2) = (2 : ℝ) ^ (y - r)
  rw [Real.rpow_def_of_pos (by norm_num)]
  congr 1
  ring

/-- The row's softmax in base `e` weighted by the values, over all keys, equals the state's quotient over `A`: the scores
    of `A`, real or `⊥`, are the row's divided by `log 2`; off `A` the row is `⊥`; some score of `A` is real. -/
theorem State.quotient [Fintype ι] {A : Finset ι} {m l a : EReal} (h : State s v A m l a) (hs : ∀ j, s j ≠ ⊤) (x : ι → EReal)
    (hx : ∀ j ∈ A, (s j = ⊥ ∧ x j = ⊥) ∨ ∃ y : ℝ, s j = y ∧ x j = ((y * Real.log 2 : ℝ) : EReal)) (hoff : ∀ j ∉ A, x j = ⊥)
    (k : ι) (hk : k ∈ A) (hsk : s k ≠ ⊥) :
    ∑ j, v j * Ideal.div (Ideal.exp (x j - Finset.univ.sup x)) (∑ i, Ideal.exp (x i - Finset.univ.sup x)) = Ideal.div a l := by
  have hlog : 0 < Real.log 2 := Real.log_pos (by norm_num)
  have hmt : m ≠ ⊤ := h.max_eq ▸ sup_ne_top A s fun j _ => hs j
  have hkm : s k ≤ m := h.max_eq ▸ Finset.le_sup hk
  have hmb : m ≠ ⊥ := fun e => hsk (le_bot_iff.1 (e ▸ hkm))
  lift m to ℝ using ⟨hmt, hmb⟩
  -- the row's maximum
  have hle : ∀ j ∈ A, s j ≤ (m : EReal) := fun j hj => h.max_eq ▸ Finset.le_sup hj
  have hM : Finset.univ.sup x = ((m * Real.log 2 : ℝ) : EReal) := by
    apply le_antisymm
    · refine Finset.sup_le fun j _ => ?_
      by_cases hj : j ∈ A
      · rcases hx j hj with ⟨-, e⟩ | ⟨y, e, e'⟩
        · rw [e]; exact bot_le
        · have := hle j hj
          rw [e, EReal.coe_le_coe_iff] at this
          rw [e', EReal.coe_le_coe_iff]
          exact mul_le_mul_of_nonneg_right this hlog.le
      · rw [hoff j hj]; exact bot_le
    · obtain ⟨j, hj, hjm⟩ := Finset.exists_mem_eq_sup A ⟨k, hk⟩ s
      rw [← h.max_eq] at hjm
      rcases hx j hj with ⟨e, -⟩ | ⟨y, e, e'⟩
      · rw [e] at hjm; exact absurd hjm (EReal.coe_ne_bot m)
      · rw [e, EReal.coe_eq_coe_iff] at hjm
        rw [hjm, ← e']
        exact Finset.le_sup (Finset.mem_univ j)
  -- the weights agree
  have hin : ∀ j ∈ A, Ideal.exp (x j - Finset.univ.sup x) = Ideal.exp2 (s j - m) := by
    intro j hj
    rw [hM]
    rcases hx j hj with ⟨e, e'⟩ | ⟨y, e, e'⟩
    · rw [e, e', EReal.bot_sub, EReal.bot_sub, Ideal.exp_bot, Ideal.exp2_bot]
    · rw [e, e', exp_scaled]
  have hout : ∀ j ∉ A, Ideal.exp (x j - Finset.univ.sup x) = 0 := by
    intro j hj
    rw [hoff j hj, EReal.bot_sub, Ideal.exp_bot]
  have hden : ∑ i, Ideal.exp (x i - Finset.univ.sup x) = l := by
    rw [h.den_eq, ← Finset.sum_subset (Finset.subset_univ A) fun j _ hj => hout j hj]
    exact Finset.sum_congr rfl hin
  -- the denominator is a positive real
  have hreal : ∀ j ∈ A, ∃ w : ℝ, 0 ≤ w ∧ Ideal.exp2 (s j - m) = w := by
    intro j hj
    rcases hx j hj with ⟨e, -⟩ | ⟨y, e, -⟩
    · exact ⟨0, le_rfl, by rw [e, EReal.bot_sub, Ideal.exp2_bot]; rfl⟩
    · exact ⟨(2 : ℝ) ^ (y - m), by positivity, by rw [e, ← EReal.coe_sub]; rfl⟩
  have hpos : ∃ L : ℝ, 0 < L ∧ l = L := by
    choose! w hw hwe using hreal
    refine ⟨∑ j ∈ A, w j, ?_, ?_⟩
    · refine Finset.sum_pos' hw ⟨k, hk, ?_⟩
      have := hwe k hk
      rcases hx k hk with ⟨e, -⟩ | ⟨y, e, -⟩
      · exact absurd e hsk
      · rw [e, ← EReal.coe_sub] at this
        have h2 : (2 : ℝ) ^ (y - m) = w k := EReal.coe_eq_coe_iff.1 this
        rw [← h2]; positivity
    · rw [h.den_eq, coe_sum]
      exact Finset.sum_congr rfl hwe
  obtain ⟨L, hL, rfl⟩ := hpos
  rw [hden, Ideal.div_coe hL.ne', h.num_eq, mul_comm, coe_mul_sum A _ (by positivity),
    ← Finset.sum_subset (Finset.subset_univ A) fun j _ hj => by rw [hout j hj, Ideal.div_coe hL.ne', zero_mul, mul_zero]]
  refine Finset.sum_congr rfl fun j hj => ?_
  rw [hin j hj, Ideal.div_coe hL.ne', mul_comm ((1 / L : ℝ) : EReal), mul_assoc]

end Cert.Proof.Softmax
-- ==== Proof.LatentRows.lean ====
/-
  What the kernel's steps compute, entry by entry over the extended reals: one block of keys folded into the carried
  maximum, denominator and numerator of a query, and the two halves of a tile of results.
-/
module

public import proofs.«01_k».proof.Proof.LatentLoop
public import proofs.«01_k».proof.Proof.Softmax
public import Idealize.ShloMosaic.Lib.Pointwise

@[expose] public section

noncomputable section

namespace Cert.Proof.Latent

open Idealize.ShloMosaic Idealize.ShloMosaic.Pointwise Cert.KernelIdeal Cert.KernelIdeal.Gen

/-- The constant that masks a score is the least extended real. -/
theorem ninf : Ideal.ofBits FTy.f32 0xFF800000#32 = ⊥ := rfl

theorem fold_max {κ : Type} (A : Finset κ) (f : κ → EReal) : A.fold max ⊥ f = A.sup f := rfl

theorem fexp2 (x : EReal) : FloatOps.exp2 (F := Ideal) (φ := .f32) x = Ideal.exp2 x := rfl

/-- The mask of a diagonal block: key `i` is seen by query `r` when its group of 64 is not a later one. -/
theorem pay1_at (i r : Fin 1024) : k0_pay1 (ix2 i r) = BitVec.ofBool (decide (i.val / 64 ≤ r.val / 64)) := by
  have hs : ∀ a : Fin 1024, (IntOp.shrsi ArithUnit.vector (BitVec.ofNat 32 ↑a) 6#32) = BitVec.ofNat 32 (a.val / 64) := by
    intro a
    revert a; decide +kernel
  have hc : ∀ a b : Fin 16, IntOp.cmpi .sle (BitVec.ofNat 32 a.val) (BitVec.ofNat 32 b.val) = BitVec.ofBool (decide (a.val ≤ b.val)) := by
    decide +kernel
  pointwise [k0_pay1]
  rw [hs, hs]
  exact hc ⟨i.val / 64, by omega⟩ ⟨r.val / 64, by omega⟩

/-- A vector of scores under the mask, read at an entry. -/
theorem masked_at (x : EReal) (i r : Fin 1024) :
    Scalar.select (k0_pay1 (ix2 i r)) x ⊥ = if i.val / 64 ≤ r.val / 64 then x else ⊥ := by
  rw [pay1_at]
  by_cases h : i.val / 64 ≤ r.val / 64 <;> simp [h, Scalar.select]

variable (qt : S1x2048x256.Idx → EReal) (kb : S1x1024x256.Idx → EReal) (vb : S1x1024x128.Idx → EReal)

/-- The score of the block's key `i` against the tile's query `r`. -/
def dot (i : Fin 1024) (r : Fin 2048) : EReal := ∑ c : Fin 256, kb (ix3 0 i c) * qt (ix3 0 r c)

/-! ## A whole block before the tile -/

theorem pay7_at (i : Fin 1024) (r : Fin 2048) : k0_pay7 (F := Ideal) qt kb (ix2 i r) = dot qt kb i r := by
  pointwise [k0_pay7, k0_pay3, dot]

theorem pay8_at (m : FVec Ideal S1x2048 .f32) (r : Fin 2048) :
    k0_pay8 (F := Ideal) qt m kb (ix2 0 r) = max (m (ix2 0 r)) (Finset.univ.sup fun i => dot qt kb i r) := by
  pointwise [k0_pay8]
  simp only [pay7_at, ninf, fold_max]

theorem pay10_at (m : FVec Ideal S1x2048 .f32) (i : Fin 1024) (r : Fin 2048) :
    k0_pay10 (F := Ideal) qt m kb (ix2 i r) = Ideal.exp2 (dot qt kb i r - k0_pay8 (F := Ideal) qt m kb (ix2 0 r)) := by
  pointwise [k0_pay10]
  simp only [pay7_at, fexp2]

theorem pay11_at (m l : FVec Ideal S1x2048 .f32) (r : Fin 2048) :
    k0_pay11 (F := Ideal) qt m l kb (ix2 0 r)
      = Ideal.exp2 (m (ix2 0 r) - k0_pay8 (F := Ideal) qt m kb (ix2 0 r)) * l (ix2 0 r)
        + ∑ i, Ideal.exp2 (dot qt kb i r - k0_pay8 (F := Ideal) qt m kb (ix2 0 r)) := by
  pointwise [k0_pay11, k0_pay9]
  simp only [pay10_at, fexp2]

theorem pay12_at (m : FVec Ideal S1x2048 .f32) (a : FVec Ideal S128x2048 .f32) (d : Fin 128) (r : Fin 2048) :
    k0_pay12 (F := Ideal) qt m a kb vb (ix2 d r)
      = Ideal.exp2 (m (ix2 0 r) - k0_pay8 (F := Ideal) qt m kb (ix2 0 r)) * a (ix2 d r)
        + ∑ i, vb (ix3 0 i d) * Ideal.exp2 (dot qt kb i r - k0_pay8 (F := Ideal) qt m kb (ix2 0 r)) := by
  pointwise [k0_pay12, k0_pay9]
  simp only [pay10_at, fexp2]

/-! ## The end of a row: the last block folded in and the quotient taken -/

/-- The quotient, from the last block's weights `w`, the factor `g` and the scaled denominator `gl`. -/
theorem pay27_at (a : FVec Ideal S128x1024 .f32) (vs : FVec Ideal S1024x128 .bf16) (g : FVec Ideal S1x1024 .f32)
    (w : FVec Ideal S1024x1024 .f32) (gl : FVec Ideal S1x1024 .f32) (r : Fin 1024) (d : Fin 128) :
    k0_pay27 (F := Ideal) a vs g w gl (ix3 0 r d)
      = Ideal.div (g (ix2 0 r) * a (ix2 d r) + ∑ i : Fin 1024, vs (ix2 i d) * w (ix2 i r)) (gl (ix2 0 r) + ∑ i : Fin 1024, w (ix2 i r)) := by
  pointwise [k0_pay27]

/-! ## The tile's first half: the diagonal block -/

theorem pay22_at (i r : Fin 1024) :
    k0_pay22 (F := Ideal) k0_pay1 qt kb (ix2 i r) = if i.val / 64 ≤ r.val / 64 then dot qt kb i ⟨r.val, by omega⟩ else ⊥ := by
  pointwise [k0_pay22, k0_pay3]
  rw [ninf, masked_at]
  rfl

theorem pay23_at (m : FVec Ideal S1x2048 .f32) (r : Fin 1024) :
    k0_pay23 (F := Ideal) k0_pay1 qt m kb (ix2 0 r)
      = max (m (ix2 0 ⟨r.val, by omega⟩)) (Finset.univ.sup fun i => k0_pay22 (F := Ideal) k0_pay1 qt kb (ix2 i r)) := by
  pointwise [k0_pay23, k0_pay19]
  simp only [ninf, fold_max]

theorem lo_at (m l : FVec Ideal S1x2048 .f32) (a : FVec Ideal S128x2048 .f32) (r : Fin 1024) (d : Fin 128) :
    k0_pay27 (F := Ideal) (k0_pay20 a) (k0_pay21 vb) (k0_pay24 k0_pay1 qt m kb) (k0_pay25 k0_pay1 qt m kb) (k0_pay26 k0_pay1 qt m l kb) (ix3 0 r d)
      = Ideal.div
          (Ideal.exp2 (m (ix2 0 ⟨r.val, by omega⟩) - k0_pay23 (F := Ideal) k0_pay1 qt m kb (ix2 0 r)) * a (ix2 d ⟨r.val, by omega⟩)
            + ∑ i : Fin 1024, vb (ix3 0 i d) * Ideal.exp2 (k0_pay22 (F := Ideal) k0_pay1 qt kb (ix2 i r) - k0_pay23 (F := Ideal) k0_pay1 qt m kb (ix2 0 r)))
          (Ideal.exp2 (m (ix2 0 ⟨r.val, by omega⟩) - k0_pay23 (F := Ideal) k0_pay1 qt m kb (ix2 0 r)) * l (ix2 0 ⟨r.val, by omega⟩)
            + ∑ i : Fin 1024, Ideal.exp2 (k0_pay22 (F := Ideal) k0_pay1 qt kb (ix2 i r) - k0_pay23 (F := Ideal) k0_pay1 qt m kb (ix2 0 r))) := by
  rw [pay27_at]
  pointwise [k0_pay20, k0_pay21, k0_pay24, k0_pay25, k0_pay26, k0_pay19]
  simp only [fexp2]

/-! ## The tile's second half: a whole block, then the diagonal one -/

theorem pay30_at (i r : Fin 1024) :
    k0_pay30 (F := Ideal) (k0_pay3 qt) kb (ix2 i r) = dot qt kb i ⟨1024 + r.val, by omega⟩ := by
  pointwise [k0_pay30, k0_pay29, k0_pay3]
  rfl

theorem pay31_at (m : FVec Ideal S1x2048 .f32) (r : Fin 1024) :
    k0_pay31 (F := Ideal) (k0_pay3 qt) m kb (ix2 0 r)
      = max (m (ix2 0 ⟨1024 + r.val, by omega⟩)) (Finset.univ.sup fun i => dot qt kb i ⟨1024 + r.val, by omega⟩) := by
  pointwise [k0_pay31, k0_pay28]
  simp only [pay30_at, ninf, fold_max]

theorem pay33_at (m : FVec Ideal S1x2048 .f32) (i r : Fin 1024) :
    k0_pay33 (F := Ideal) (k0_pay3 qt) m kb (ix2 i r)
      = Ideal.exp2 (dot qt kb i ⟨1024 + r.val, by omega⟩ - k0_pay31 (F := Ideal) (k0_pay3 qt) m kb (ix2 0 r)) := by
  pointwise [k0_pay33]
  simp only [pay30_at, fexp2]

theorem pay34_at (m l : FVec Ideal S1x2048 .f32) (r : Fin 1024) :
    k0_pay34 (F := Ideal) (k0_pay3 qt) m l kb (ix2 0 r)
      = Ideal.exp2 (m (ix2 0 ⟨1024 + r.val, by omega⟩) - k0_pay31 (F := Ideal) (k0_pay3 qt) m kb (ix2 0 r)) * l (ix2 0 ⟨1024 + r.val, by omega⟩)
        + ∑ i, Ideal.exp2 (dot qt kb i ⟨1024 + r.val, by omega⟩ - k0_pay31 (F := Ideal) (k0_pay3 qt) m kb (ix2 0 r)) := by
  pointwise [k0_pay34, k0_pay32, k0_pay28]
  simp only [pay33_at, fexp2]

/-- The numerator after the whole block. -/
def hiNum (m : FVec Ideal S1x2048 .f32) (a : FVec Ideal S128x2048 .f32) : FVec Ideal S128x1024 .f32 :=
  addf (k0_pay35 (F := Ideal) (k0_pay3 qt) m a kb) (k0_pay36 (F := Ideal) (k0_pay3 qt) m kb vb)

theorem hiNum_at (m : FVec Ideal S1x2048 .f32) (a : FVec Ideal S128x2048 .f32) (d : Fin 128) (r : Fin 1024) :
    hiNum qt kb vb m a (ix2 d r)
      = Ideal.exp2 (m (ix2 0 ⟨1024 + r.val, by omega⟩) - k0_pay31 (F := Ideal) (k0_pay3 qt) m kb (ix2 0 r)) * a (ix2 d ⟨1024 + r.val, by omega⟩)
        + ∑ i, vb (ix3 0 i d) * Ideal.exp2 (dot qt kb i ⟨1024 + r.val, by omega⟩ - k0_pay31 (F := Ideal) (k0_pay3 qt) m kb (ix2 0 r)) := by
  pointwise [hiNum, k0_pay35, k0_pay36, k0_pay32, k0_pay28]
  simp only [pay33_at, fexp2]

/-- The diagonal block's scores under the mask. -/
def hiScore : FVec Ideal S1024x1024 .f32 :=
  select k0_pay1
    (matmul dot_S1024x256_S1024x256_S1024x1024_1_1_0_0_n_n none
      (shapeCast S1024x256 (kb : FVec Ideal S1x1024x256 .bf16) shapeCasts_S1x1024x256_S1024x256 : FVec Ideal S1024x256 .bf16)
      (k0_pay29 (F := Ideal) (k0_pay3 qt)) (constant S1024x1024 .f32 0x00000000#32))
    (broadcast S1024x1024 (Scalar.ofBits (F := Ideal) .f32 0xFF800000#32))

theorem hiScore_at (i r : Fin 1024) :
    hiScore qt kb (ix2 i r) = if i.val / 64 ≤ r.val / 64 then dot qt kb i ⟨1024 + r.val, by omega⟩ else ⊥ := by
  pointwise [hiScore, k0_pay29, k0_pay3]
  rw [ninf, masked_at]
  rfl

/-- The maximum with the diagonal block. -/
def hiMax (m : FVec Ideal S1x1024 .f32) : FVec Ideal S1x1024 .f32 :=
  maximumf m (shapeCast S1x1024 (multiReduction .maximumf [0] S1024 (hiScore qt kb) 0xFF800000#32 reduces_S1024x1024_S1024 (.inl rfl) rfl)
    shapeCasts_S1024_S1x1024)

theorem hiMax_at (m : FVec Ideal S1x1024 .f32) (r : Fin 1024) :
    hiMax qt kb m (ix2 0 r) = max (m (ix2 0 r)) (Finset.univ.sup fun i => hiScore qt kb (ix2 i r)) := by
  pointwise [hiMax]
  simp only [ninf, fold_max]

theorem hi_eq (m : FVec Ideal S1x1024 .f32) (l : FVec Ideal S1x1024 .f32) (a a' : FVec Ideal S128x1024 .f32) :
    k0_pay2 (F := Ideal) (k0_pay29 (k0_pay3 qt)) m l a a' kb vb
      = k0_pay27 (F := Ideal) (addf a a') (shapeCast S1024x128 (vb : FVec Ideal S1x1024x128 .bf16) shapeCasts_S1x1024x128_S1024x128)
          (exp2 (subf m (hiMax qt kb m)))
          (exp2 (subf (hiScore qt kb) (broadcastTo S1024x1024 (hiMax qt kb m) broadcasts_S1x1024_S1024x1024)))
          (mulf (exp2 (subf m (hiMax qt kb m))) l) := rfl

theorem hi_at (m : FVec Ideal S1x1024 .f32) (l : FVec Ideal S1x1024 .f32) (a a' : FVec Ideal S128x1024 .f32) (r : Fin 1024) (d : Fin 128) :
    k0_pay2 (F := Ideal) (k0_pay29 (k0_pay3 qt)) m l a a' kb vb (ix3 0 r d)
      = Ideal.div
          (Ideal.exp2 (m (ix2 0 r) - hiMax qt kb m (ix2 0 r)) * (addf a a') (ix2 d r)
            + ∑ i : Fin 1024, vb (ix3 0 i d) * Ideal.exp2 (hiScore qt kb (ix2 i r) - hiMax qt kb m (ix2 0 r)))
          (Ideal.exp2 (m (ix2 0 r) - hiMax qt kb m (ix2 0 r)) * l (ix2 0 r)
            + ∑ i : Fin 1024, Ideal.exp2 (hiScore qt kb (ix2 i r) - hiMax qt kb m (ix2 0 r))) := by
  rw [hi_eq, pay27_at]
  pointwise
  simp only [fexp2]

end Cert.Proof.Latent
-- ==== Proof.LatentValue.lean ====
/-
  The latent attention's value: a row's running state after each block of keys, and the block a head leaves in the
  output — at every query and lane the softmax, over the keys the query sees, of the scaled scores.
-/
module

public import proofs.«01_k».proof.Proof.LatentRows
public import proofs.«01_k».proof.Proof.LatentRun
public import Idealize.ShloMosaic.Lib.Pipeline.ValueKit.Tiles

@[expose] public section

set_option maxRecDepth 16384

noncomputable section

namespace Cert.Proof.Latent

open Idealize.ShloMosaic Idealize.ShloMosaic.Pointwise Cert.KernelIdeal Cert.KernelIdeal.Gen Cert.Proof.Softmax

/-! ## Keys in order -/

/-- The first `N` keys. -/
def below (N : ℕ) : Finset (Fin 8192) := Finset.univ.filter fun j => j.val < N

theorem mem_below {N : ℕ} {j : Fin 8192} : j ∈ below N ↔ j.val < N := by simp [below]

theorem below_zero : below 0 = ∅ := by ext j; simp [mem_below]

/-- One block of 1024 keys more. -/
theorem block_step {s v : Fin 8192 → EReal} (hs : ∀ j, s j ≠ ⊤) {b : ℕ} (hb : b + 1024 ≤ 8192) {m l a : EReal}
    (h : State s v (below b) m l a) (x w : Fin 1024 → EReal) (hx : ∀ i : Fin 1024, x i = s ⟨b + i.val, by omega⟩)
    (hw : ∀ i : Fin 1024, w i = v ⟨b + i.val, by omega⟩) (m' l' a' : EReal) (hm : m' = max m (Finset.univ.sup x))
    (hl : l' = Ideal.exp2 (m - m') * l + ∑ i, Ideal.exp2 (x i - m'))
    (ha : a' = Ideal.exp2 (m - m') * a + ∑ i, w i * Ideal.exp2 (x i - m')) : State s v (below (b + 1024)) m' l' a' := by
  have hf : Function.Injective fun i : Fin 1024 => (⟨b + i.val, by omega⟩ : Fin 8192) := by
    intro i j e
    have := congrArg Fin.val e
    simp only at this
    exact Fin.ext (by omega)
  have hu : below b ∪ Finset.univ.map ⟨_, hf⟩ = below (b + 1024) := by
    ext j
    simp only [Finset.mem_union, mem_below, Finset.mem_map, Finset.mem_univ, true_and, Function.Embedding.coeFn_mk]
    constructor
    · rintro (h | ⟨i, rfl⟩)
      · omega
      · simp only; omega
    · intro h
      by_cases hj : j.val < b
      · exact .inl hj
      · exact .inr ⟨⟨j.val - b, by omega⟩, Fin.ext (by simp only; omega)⟩
  have key := h.step hs (fun i : Fin 1024 => (⟨b + i.val, by omega⟩ : Fin 8192)) hf
    (fun i hi => by have := mem_below.1 hi; simp only at this; omega) m'
    (by rw [hm]; congr 1; exact Finset.sup_congr rfl fun i _ => hx i)
  rw [hu] at key
  rw [hl, ha]
  simpa only [hx, hw] using key

/-! ## A query's scores -/

variable (xq xk : S1x8192x256.Idx → Elt Ideal .bf16) (xv : S1x8192x128.Idx → Elt Ideal .bf16)

/-- The score of key `j` against query `r`. -/
def score (r j : Fin 8192) : EReal := ∑ c : Fin 256, xk (ix3 0 j c) * xq (ix3 0 r c)

/-- The scores query `r` sees: a key of a later group of 64 is masked. -/
def seen (r j : Fin 8192) : EReal := if j.val / 64 ≤ r.val / 64 then score xq xk r j else ⊥

/-- The values of lane `d`. -/
abbrev lane (d : Fin 128) (j : Fin 8192) : EReal := xv (ix3 0 j d)

/-- A tile of queries as loaded. -/
theorem queries_at (off : Fin 3 → ℕ) (inb : ∀ a, off a + S1x2048x256.size a ≤ S1x8192x256.size a) (b : ℕ) (ho : off = ![0, b, 0]) (hb : b + 2048 ≤ 8192)
    (r : Fin 2048) (c : Fin 256) :
    View.ld (Val := Elt Ideal) (e' := .bf16) xq (Rect.unit (s := S1x8192x256) off S1x2048x256.size inb) (ix3 0 r c) = xq (ix3 0 ⟨b + r.val, by omega⟩ c) := by
  subst ho
  refine View.ld_unit_apply_of xq _ _ _ _ _ ?_
  intro a
  fin_cases a
  · rfl
  · rfl
  · exact (Nat.zero_add _).symm

theorem trips_eq (t : Fin k0_t1_loop.trips) : (k0_t2_loop t).trips = 2 * t.val := by
  revert t; decide +kernel

theorem tiles_eq : k0_t1_loop.trips = 4 := by decide +kernel

/-- A block of keys as loaded. -/
theorem keys_at (off : Fin 3 → ℕ) (inb : ∀ a, off a + S1x1024x256.size a ≤ S1x8192x256.size a) (b : ℕ) (ho : off = ![0, b, 0]) (hb : b + 1024 ≤ 8192)
    (i : Fin 1024) (c : Fin 256) :
    View.ld (Val := Elt Ideal) (e' := .bf16) xk (Rect.unit (s := S1x8192x256) off S1x1024x256.size inb) (ix3 0 i c) = xk (ix3 0 ⟨b + i.val, by omega⟩ c) := by
  subst ho
  refine View.ld_unit_apply_of xk _ _ _ _ _ ?_
  intro a
  fin_cases a
  · rfl
  · rfl
  · exact (Nat.zero_add _).symm

theorem dot_eq (t : Fin k0_t1_loop.trips) (r : Fin 2048) (kb : S1x1024x256.Idx → EReal) (b : ℕ) (hb : b + 1024 ≤ 8192) (R : Fin 8192)
    (hR : R.val = 2048 * t.val + r.val)
    (hk : ∀ (i : Fin 1024) (c : Fin 256), kb (ix3 0 i c) = xk (ix3 0 ⟨b + i.val, by omega⟩ c)) (i : Fin 1024) :
    dot (qTile (F := Ideal) xq t) kb i r = score xq xk R ⟨b + i.val, by omega⟩ := by
  have ht : t.val < 4 := tiles_eq ▸ t.isLt
  unfold dot score
  refine Finset.sum_congr rfl fun c _ => ?_
  rw [hk]
  congr 1
  have e : R = ⟨2048 * t.val + r.val, by have := r.isLt; omega⟩ := Fin.ext hR
  rw [e]
  exact queries_at xq _ _ _ (k0_off1_eq t) (by omega) r c

/-- A block of values as loaded. -/
theorem values_at (off : Fin 3 → ℕ) (inb : ∀ a, off a + S1x1024x128.size a ≤ S1x8192x128.size a) (b : ℕ) (ho : off = ![0, b, 0]) (hb : b + 1024 ≤ 8192)
    (i : Fin 1024) (d : Fin 128) :
    View.ld (Val := Elt Ideal) (e' := .bf16) xv (Rect.unit (s := S1x8192x128) off S1x1024x128.size inb) (ix3 0 i d) = xv (ix3 0 ⟨b + i.val, by omega⟩ d) := by
  subst ho
  refine View.ld_unit_apply_of xv _ _ _ _ _ ?_
  intro a
  fin_cases a
  · rfl
  · rfl
  · exact (Nat.zero_add _).symm

/-- What a query carries after `n` whole blocks is the state over their keys. -/
theorem carried_state (t : Fin k0_t1_loop.trips) (r : Fin 2048) (d : Fin 128) (R : Fin 8192) (hR : R.val = 2048 * t.val + r.val)
    (hs : ∀ j, seen xq xk R j ≠ ⊤) (n : ℕ) (hn : n ≤ 2 * t.val) :
    State (seen xq xk R) (lane xv d) (below (1024 * n)) ((carried (F := Ideal) xq xk xv t n).1 (ix2 0 r))
      ((carried (F := Ideal) xq xk xv t n).2.1 (ix2 0 r)) ((carried (F := Ideal) xq xk xv t n).2.2 (ix2 d r)) := by
  have ht : t.val < 4 := tiles_eq ▸ t.isLt
  induction n with
  | zero =>
    have e4 : k0_pay4 (F := Ideal) (ix2 0 r) = ⊥ := ninf
    have e5 : k0_pay5 (F := Ideal) (ix2 0 r) = 0 := Ideal.ofBits_zero_f32
    have e6 : k0_pay6 (F := Ideal) (ix2 d r) = 0 := Ideal.ofBits_zero_f32
    show State _ _ (below 0) (k0_pay4 (F := Ideal) (ix2 0 r)) (k0_pay5 (F := Ideal) (ix2 0 r)) (k0_pay6 (F := Ideal) (ix2 d r))
    rw [below_zero, e4, e5, e6]
    exact State.empty _ _
  | succ n ih =>
    have hlt : n < (k0_t2_loop t).trips := by rw [trips_eq]; omega
    rw [carried, dif_pos hlt]
    have hb : 1024 * n + 1024 ≤ 8192 := by omega
    have hsc : ∀ i : Fin 1024, dot (qTile (F := Ideal) xq t)
        (View.ld (Val := Elt Ideal) (e' := .bf16) xk (Rect.unit (s := S1x8192x256) (k0_off2 t ⟨n, hlt⟩) S1x1024x256.size (k0_off2_inb t ⟨n, hlt⟩))) i r
        = seen xq xk R ⟨1024 * n + i.val, by omega⟩ := by
      intro i
      rw [dot_eq xq xk t r _ (1024 * n) hb R hR (keys_at xk _ _ _ (k0_off2_eq t ⟨n, hlt⟩) hb), seen, if_pos]
      simp only
      omega
    refine block_step hs hb (ih (by omega)) _ (fun i => View.ld (Val := Elt Ideal) (e' := .bf16) xv (Rect.unit (s := S1x8192x128) (k0_off3 t ⟨n, hlt⟩) S1x1024x128.size (k0_off3_inb t ⟨n, hlt⟩)) (ix3 0 i d))
      hsc (fun i => values_at xv _ _ _ (k0_off3_eq t ⟨n, hlt⟩) hb i d) _ _ _ ?_ ?_ ?_
    · exact pay8_at _ _ _ r
    · exact pay11_at _ _ _ _ r
    · exact pay12_at _ _ _ _ _ d r

/-! ## The two halves of a tile -/

/-- The softmax of query `r`'s scores over the keys it sees, weighted by lane `d` of the values. -/
def attended (r : Fin 8192) (d : Fin 128) : EReal :=
  ∑ j, lane xv d j * Ideal.div
    (Ideal.exp ((if j.val / 64 ≤ r.val / 64 then score xq xk r j * (Real.log 2 : ℝ) else ⊥)
      - Finset.univ.sup fun j : Fin 8192 => if j.val / 64 ≤ r.val / 64 then score xq xk r j * (Real.log 2 : ℝ) else ⊥))
    (∑ i : Fin 8192, Ideal.exp ((if i.val / 64 ≤ r.val / 64 then score xq xk r i * (Real.log 2 : ℝ) else ⊥)
      - Finset.univ.sup fun j : Fin 8192 => if j.val / 64 ≤ r.val / 64 then score xq xk r j * (Real.log 2 : ℝ) else ⊥))

variable {xq xk xv}

theorem seen_ne_top (hreal : ∀ r j, ∃ y : ℝ, score xq xk r j = y) (r j : Fin 8192) : seen xq xk r j ≠ ⊤ := by
  unfold seen
  split
  · obtain ⟨y, hy⟩ := hreal r j
    rw [hy]; exact EReal.coe_ne_top y
  · exact bot_ne_top

/-- The quotient of a state over a row's keys up to a group's end past the query is the row's softmax. -/
theorem quotient_eq (hreal : ∀ r j, ∃ y : ℝ, score xq xk r j = y) (R : Fin 8192) (d : Fin 128) (N : ℕ) (hN : R.val < N) (h64 : 64 ∣ N)
    {m l a : EReal} (h : State (seen xq xk R) (lane xv d) (below N) m l a) : Ideal.div a l = attended xq xk xv R d := by
  refine (h.quotient (seen_ne_top hreal R) _ ?_ ?_ R (mem_below.2 hN) ?_).symm
  · intro j _
    unfold seen
    by_cases hj : j.val / 64 ≤ R.val / 64
    · obtain ⟨y, hy⟩ := hreal R j
      exact .inr ⟨y, by rw [if_pos hj, hy], by rw [if_pos hj, hy, EReal.coe_mul]⟩
    · exact .inl ⟨by rw [if_neg hj], by rw [if_neg hj]⟩
  · intro j hj
    rw [mem_below] at hj
    rw [if_neg]
    omega
  · obtain ⟨y, hy⟩ := hreal R R
    rw [seen, if_pos le_rfl, hy]; exact EReal.coe_ne_bot y

theorem outLo_at (hreal : ∀ r j, ∃ y : ℝ, score xq xk r j = y) (t : Fin k0_t1_loop.trips) (r : Fin 1024) (d : Fin 128) (R : Fin 8192)
    (hR : R.val = 2048 * t.val + r.val) : outLo (F := Ideal) xq xk xv t (ix3 0 r d) = attended xq xk xv R d := by
  have ht : t.val < 4 := tiles_eq ▸ t.isLt
  have hs := carried_state xq xk xv t ⟨r.val, by omega⟩ d R hR (seen_ne_top hreal R) (k0_t2_loop t).trips (trips_eq t).le
  have hN : 1024 * (k0_t2_loop t).trips = 2048 * t.val := by rw [trips_eq]; omega
  rw [hN] at hs
  have hb : 2048 * t.val + 1024 ≤ 8192 := by omega
  have ok : k0_off6 t 0#32 = ![0, 2048 * t.val, 0] := k0_off6_eq t 0
  have ov : k0_off7 t 0#32 = ![0, 2048 * t.val, 0] := k0_off7_eq t 0
  have hsc : ∀ i : Fin 1024, k0_pay22 (F := Ideal) k0_pay1 (qTile (F := Ideal) xq t)
      (View.ld (Val := Elt Ideal) (e' := .bf16) xk (Rect.unit (s := S1x8192x256) (k0_off6 t 0#32) S1x1024x256.size (k0_off6_inb t 0))) (ix2 i r)
      = seen xq xk R ⟨2048 * t.val + i.val, by omega⟩ := by
    intro i
    rw [pay22_at, dot_eq xq xk t ⟨r.val, by omega⟩ _ (2048 * t.val) hb R hR (keys_at xk _ _ _ ok hb), seen]
    refine if_congr ?_ rfl rfl
    simp only
    omega
  have key := block_step (seen_ne_top hreal R) hb hs _
    (fun i => View.ld (Val := Elt Ideal) (e' := .bf16) xv (Rect.unit (s := S1x8192x128) (k0_off7 t 0#32) S1x1024x128.size (k0_off7_inb t 0)) (ix3 0 i d))
    hsc (fun i => values_at xv _ _ _ ov hb i d) _ _ _ (pay23_at _ _ _ r) rfl rfl
  rw [← quotient_eq hreal R d _ (by omega) (by omega) key]
  exact lo_at _ _ _ _ _ _ r d

theorem outHi_at (hreal : ∀ r j, ∃ y : ℝ, score xq xk r j = y) (t : Fin k0_t1_loop.trips) (r : Fin 1024) (d : Fin 128) (R : Fin 8192)
    (hR : R.val = 2048 * t.val + 1024 + r.val) : outHi (F := Ideal) xq xk xv t (ix3 0 r d) = attended xq xk xv R d := by
  have ht : t.val < 4 := tiles_eq ▸ t.isLt
  have hR' : R.val = 2048 * t.val + (⟨1024 + r.val, by omega⟩ : Fin 2048).val := by simp only; omega
  have hs := carried_state xq xk xv t ⟨1024 + r.val, by omega⟩ d R hR' (seen_ne_top hreal R) (k0_t2_loop t).trips (trips_eq t).le
  have hN : 1024 * (k0_t2_loop t).trips = 2048 * t.val := by rw [trips_eq]; omega
  rw [hN] at hs
  have hb : 2048 * t.val + 1024 ≤ 8192 := by omega
  have hb' : 2048 * t.val + 1024 + 1024 ≤ 8192 := by omega
  have ok : k0_off6 t 1024#32 = ![0, 2048 * t.val + 1024, 0] := k0_off6_eq t 1
  have ov : k0_off7 t 1024#32 = ![0, 2048 * t.val + 1024, 0] := k0_off7_eq t 1
  have hsc : ∀ i : Fin 1024, dot (qTile (F := Ideal) xq t)
      (View.ld (Val := Elt Ideal) (e' := .bf16) xk (Rect.unit (s := S1x8192x256) (k0_off8 t) S1x1024x256.size (k0_off8_inb t))) i ⟨1024 + r.val, by omega⟩
      = seen xq xk R ⟨2048 * t.val + i.val, by omega⟩ := by
    intro i
    rw [dot_eq xq xk t ⟨1024 + r.val, by omega⟩ _ (2048 * t.val) hb R hR' (keys_at xk _ _ _ (k0_off8_eq t) hb), seen, if_pos]
    simp only
    omega
  have hsc' : ∀ i : Fin 1024, hiScore (qTile (F := Ideal) xq t)
      (View.ld (Val := Elt Ideal) (e' := .bf16) xk (Rect.unit (s := S1x8192x256) (k0_off6 t 1024#32) S1x1024x256.size (k0_off6_inb t 1))) (ix2 i r)
      = seen xq xk R ⟨2048 * t.val + 1024 + i.val, by omega⟩ := by
    intro i
    rw [hiScore_at, dot_eq xq xk t ⟨1024 + r.val, by omega⟩ _ (2048 * t.val + 1024) hb' R hR' (keys_at xk _ _ _ ok hb'), seen]
    refine if_congr ?_ rfl rfl
    simp only
    omega
  have key := block_step (seen_ne_top hreal R) hb hs _
    (fun i => View.ld (Val := Elt Ideal) (e' := .bf16) xv (Rect.unit (s := S1x8192x128) (k0_off9 t) S1x1024x128.size (k0_off9_inb t)) (ix3 0 i d))
    hsc (fun i => values_at xv _ _ _ (k0_off9_eq t) hb i d) _ _ _ (pay31_at _ _ _ r) (pay34_at _ _ _ _ r) (hiNum_at _ _ _ _ _ d r)
  have key' := block_step (seen_ne_top hreal R) hb' key _
    (fun i => View.ld (Val := Elt Ideal) (e' := .bf16) xv (Rect.unit (s := S1x8192x128) (k0_off7 t 1024#32) S1x1024x128.size (k0_off7_inb t 1)) (ix3 0 i d))
    hsc' (fun i => values_at xv _ _ _ ov hb' i d) _ _ _ (hiMax_at _ _ _ r) rfl rfl
  rw [← quotient_eq hreal R d _ (by omega) (by omega) key']
  exact hi_at _ _ _ _ _ _ _ r d

/-! ## The block a head leaves -/

/-- Where a piece's entry lands. -/
theorem emb_at (off : Fin 3 → ℕ) (inb : ∀ a, off a + S1x1024x128.size a ≤ S1x8192x128.size a) (b : ℕ) (ho : off = ![0, b, 0]) (hb : b + 1024 ≤ 8192)
    (r : Fin 1024) (d : Fin 128) :
    (Rect.unit (s := S1x8192x128) off S1x1024x128.size inb).emb (ix3 0 r d) = ix3 0 ⟨b + r.val, by omega⟩ d := by
  subst ho
  funext a
  refine Fin.ext ((Rect.idx_unit_val (s := S1x8192x128) ![0, b, 0] S1x1024x128.size inb (ix3 0 r d) a).trans ?_)
  fin_cases a
  · rfl
  · rfl
  · exact Nat.zero_add _

/-- The whole block's values: at an index, the softmax of its query over its lane. -/
def block (xq xk : S1x8192x256.Idx → Elt Ideal .bf16) (xv : S1x8192x128.Idx → Elt Ideal .bf16) (y : S1x8192x128.Idx) : Elt Ideal .bf16 :=
  attended xq xk xv (y 1) (y 2)

theorem block_at (r : Fin 8192) (d : Fin 128) : block xq xk xv (ix3 0 r d) = attended xq xk xv r d := rfl

theorem lo_piece (hreal : ∀ r j, ∃ y : ℝ, score xq xk r j = y) (t : Fin k0_t1_loop.trips) (x : S1x1024x128.Idx) :
    outLo (F := Ideal) xq xk xv t x
      = block xq xk xv ((Rect.unit (s := S1x8192x128) (k0_off7 t 0#32) S1x1024x128.size (k0_off7_inb t 0)).emb x) := by
  have ht : t.val < 4 := tiles_eq ▸ t.isLt
  obtain ⟨a, r, d, rfl⟩ : ∃ (a : Fin 1) (r : Fin 1024) (d : Fin 128), x = ix3 a r d := ⟨_, _, _, eq_ix3 x⟩
  obtain rfl : a = 0 := Subsingleton.elim _ _
  have ov : k0_off7 t 0#32 = ![0, 2048 * t.val, 0] := k0_off7_eq t 0
  rw [emb_at _ _ (2048 * t.val) ov (by omega), block_at]
  exact outLo_at hreal t r d _ rfl

theorem hi_piece (hreal : ∀ r j, ∃ y : ℝ, score xq xk r j = y) (t : Fin k0_t1_loop.trips) (x : S1x1024x128.Idx) :
    outHi (F := Ideal) xq xk xv t x
      = block xq xk xv ((Rect.unit (s := S1x8192x128) (k0_off7 t 1024#32) S1x1024x128.size (k0_off7_inb t 1)).emb x) := by
  have ht : t.val < 4 := tiles_eq ▸ t.isLt
  obtain ⟨a, r, d, rfl⟩ : ∃ (a : Fin 1) (r : Fin 1024) (d : Fin 128), x = ix3 a r d := ⟨_, _, _, eq_ix3 x⟩
  obtain rfl : a = 0 := Subsingleton.elim _ _
  have ov : k0_off7 t 1024#32 = ![0, 2048 * t.val + 1024, 0] := k0_off7_eq t 1
  rw [emb_at _ _ (2048 * t.val + 1024) ov (by omega), block_at]
  exact outHi_at hreal t r d _ rfl

theorem piece_at (hreal : ∀ r j, ∃ y : ℝ, score xq xk r j = y) (n : ℕ) :
    ∀ p ∈ piecesUpTo (F := Ideal) xq xk xv n, ∀ x : p.1.shape.Idx, p.2 x = block xq xk xv (p.1.emb x) := by
  induction n with
  | zero => intro p hp; exact absurd hp List.not_mem_nil
  | succ n ih =>
    intro p hp
    rw [piecesUpTo, List.mem_append] at hp
    rcases hp with hp | hp
    · by_cases h : n < k0_t1_loop.trips
      · rw [dif_pos h, pieces] at hp
        rcases List.mem_cons.1 hp with rfl | hp
        · exact hi_piece hreal ⟨n, h⟩
        · rcases List.mem_cons.1 hp with rfl | hp
          · exact lo_piece hreal ⟨n, h⟩
          · exact absurd hp List.not_mem_nil
      · rw [dif_neg h] at hp; exact absurd hp List.not_mem_nil
    · exact ih p hp

/-- A head's output. -/
theorem head_eq (hreal : ∀ r j, ∃ y : ℝ, score xq xk r j = y) : head (F := Ideal) xq xk xv = block xq xk xv := by
  funext y
  have hc : ∃ p ∈ piecesUpTo (F := Ideal) xq xk xv k0_t1_loop.trips, y ∈ p.1.set := covered (F := Ideal) xq xk xv y
  have hp := piece_at (xv := xv) hreal k0_t1_loop.trips
  show View.canon (piecesUpTo (F := Ideal) xq xk xv k0_t1_loop.trips) y = _
  generalize piecesUpTo (F := Ideal) xq xk xv k0_t1_loop.trips = L at hc hp ⊢
  exact View.canon_apply_of_pieces (block xq xk xv) L hp y hc

end Cert.Proof.Latent
-- ==== Proof.LatentArrays.lean ====
/-
  What the arrays hold when the attention is entered: the padded queries (scaled), the padded keys and the values.
-/
module

public import proofs.«01_k».proof.Proof.LatentValue
public import Idealize.ShloMosaic.Lib.StableHlo.ReadAt
public import Idealize.ShloMosaic.Lib.Pipeline.ValueKit

@[expose] public section

set_option maxRecDepth 16384

noncomputable section

namespace Cert.Proof.Latent

open Idealize.ShloMosaic Idealize.ShloMosaic.TcCoe Idealize.ShloMosaic.Pointwise Cert.KernelIdeal Cert.KernelIdeal.Gen Cert.Proof.Softmax

variable (m : (ℓ : Loc nD τ sig) → Buf (Elt Ideal) ℓ) (c : Dev nD)

theorem values_read (b : Fin 2) (j : Fin 8192) (n : Fin 4096) :
    V m c main_v33 (ix3 b j n) = m ((c : Thread nD τ).loc main_arg2) (ix4 b j ⟨n.val / 128, by omega⟩ ⟨n.val % 128, by omega⟩) := by
  unfold V
  after_reads_at

/-- A head's 192 lanes laid out in 256: an even head's lanes first, an odd head's last 64 moved to the end. -/
def padded (h : Fin 32) (x : Fin 192 → EReal) (w : Fin 256) : EReal :=
  if h.val % 2 = 0 then (if e : w.val < 192 then x ⟨w.val, e⟩ else 0)
  else if e : w.val < 128 then x ⟨w.val, by omega⟩ else if w.val < 192 then 0 else x ⟨w.val - 64, by omega⟩

theorem padded_even (A : S2x8192x32x192.Idx → EReal) (b : Fin 2) (j : Fin 8192) (h : Fin 32) (w : Fin 256) (n : Nat)
    (hn : n = 256 * h.val + w.val) (he : n % 512 < 256) :
    (if h1 : n % 512 < 192 then A (ix4 b j ⟨n / 512 * 2, by omega⟩ ⟨n % 512, h1⟩) else 0) = padded h (fun e => A (ix4 b j h e)) w := by
  unfold padded
  rw [if_pos (by omega : h.val % 2 = 0)]
  refine dite_congr (propext ⟨fun _ => by omega, fun _ => by omega⟩) (fun h1 => ?_) (fun h1 => rfl)
  have e1 : (⟨n / 512 * 2, by omega⟩ : Fin 32) = h := Fin.ext (by show n / 512 * 2 = h.val; omega)
  have e2 : (⟨n % 512, by omega⟩ : Fin 192) = ⟨w.val, h1⟩ := Fin.ext (by show n % 512 = w.val; omega)
  simp only [e1, e2]

theorem padded_low (A : S2x8192x32x192.Idx → EReal) (b : Fin 2) (j : Fin 8192) (h : Fin 32) (w : Fin 256) (n : Nat)
    (hn : n = 256 * h.val + w.val) (he : ¬ n % 512 < 256) (h1 : n % 512 - 256 < 128) :
    A (ix4 b j ⟨n / 512 * 2 + 1, by omega⟩ ⟨n % 512 - 256, by omega⟩) = padded h (fun e => A (ix4 b j h e)) w := by
  unfold padded
  rw [if_neg (by omega : ¬ h.val % 2 = 0), dif_pos (by omega : w.val < 128)]
  have e1 : (⟨n / 512 * 2 + 1, by omega⟩ : Fin 32) = h := Fin.ext (by show n / 512 * 2 + 1 = h.val; omega)
  have e2 : (⟨n % 512 - 256, by omega⟩ : Fin 192) = ⟨w.val, by omega⟩ := Fin.ext (by show n % 512 - 256 = w.val; omega)
  simp only [e1, e2]

theorem padded_mid (A : S2x8192x32x192.Idx → EReal) (b : Fin 2) (j : Fin 8192) (h : Fin 32) (w : Fin 256) (n : Nat)
    (hn : n = 256 * h.val + w.val) (he : ¬ n % 512 < 256) (h1 : ¬ n % 512 - 256 < 128) (h2 : n % 512 - 256 - 128 < 64) :
    0 = padded h (fun e => A (ix4 b j h e)) w := by
  unfold padded
  rw [if_neg (by omega : ¬ h.val % 2 = 0), dif_neg (by omega : ¬ w.val < 128), if_pos (by omega : w.val < 192)]

theorem padded_high (A : S2x8192x32x192.Idx → EReal) (b : Fin 2) (j : Fin 8192) (h : Fin 32) (w : Fin 256) (n : Nat)
    (hn : n = 256 * h.val + w.val) (he : ¬ n % 512 < 256) (h1 : ¬ n % 512 - 256 < 128) (h2 : ¬ n % 512 - 256 - 128 < 64) :
    A (ix4 b j ⟨n / 512 * 2 + 1, by omega⟩ ⟨128 + (n % 512 - 256 - 128 - 64), by omega⟩) = padded h (fun e => A (ix4 b j h e)) w := by
  unfold padded
  rw [if_neg (by omega : ¬ h.val % 2 = 0), dif_neg (by omega : ¬ w.val < 128), if_neg (by omega : ¬ w.val < 192)]
  have e1 : (⟨n / 512 * 2 + 1, by omega⟩ : Fin 32) = h := Fin.ext (by show n / 512 * 2 + 1 = h.val; omega)
  have e2 : (⟨128 + (n % 512 - 256 - 128 - 64), by omega⟩ : Fin 192) = ⟨w.val - 64, by omega⟩ :=
    Fin.ext (by show 128 + (n % 512 - 256 - 128 - 64) = w.val - 64; omega)
  simp only [e1, e2]

theorem keys_read (b : Fin 2) (j : Fin 8192) (h : Fin 32) (w : Fin 256) :
    V m c main_v32 (ix3 b j ⟨256 * h.val + w.val, by omega⟩) = padded h (fun e => (m ((c : Thread nD τ).loc main_arg1) : S2x8192x32x192.Idx → EReal) (ix4 b j h e)) w := by
  unfold V
  after_reads_at
  split
  next he =>
    after_reads_at
    exact padded_even (m ((c : Thread nD τ).loc main_arg1)) b j h w _ rfl he
  next he =>
    after_reads_at
    split
    next h1 =>
      after_reads_at
      exact padded_low (m ((c : Thread nD τ).loc main_arg1)) b j h w _ rfl he h1
    next h1 =>
      split
      next h2 =>
        after_reads_at
        exact padded_mid (m ((c : Thread nD τ).loc main_arg1)) b j h w _ rfl he h1 h2
      next h2 =>
        after_reads_at
        exact padded_high (m ((c : Thread nD τ).loc main_arg1)) b j h w _ rfl he h1 h2

/-- The factor the queries are scaled by. -/
def scale : EReal := Ideal.div 1 (Ideal.sqrt (Ideal.ofBits FTy.f32 0x43400000#32) * Ideal.log (Ideal.ofBits FTy.f32 0x40000000#32))

/-- The queries scaled. -/
def scaled (A : S2x8192x32x192.Idx → EReal) : S2x8192x32x192.Idx → EReal := fun i => A i * scale

theorem queries_read (b : Fin 2) (j : Fin 8192) (h : Fin 32) (w : Fin 256) :
    V m c main_v31 (ix3 b j ⟨256 * h.val + w.val, by omega⟩) = padded h (fun e => (scaled (m ((c : Thread nD τ).loc main_arg0)) : S2x8192x32x192.Idx → EReal) (ix4 b j h e)) w := by
  unfold V
  after_reads_at
  split
  next he =>
    after_reads_at
    exact padded_even (scaled (m ((c : Thread nD τ).loc main_arg0))) b j h w _ rfl he
  next he =>
    after_reads_at
    split
    next h1 =>
      after_reads_at
      exact padded_low (scaled (m ((c : Thread nD τ).loc main_arg0))) b j h w _ rfl he h1
    next h1 =>
      split
      next h2 =>
        after_reads_at
        exact padded_mid (scaled (m ((c : Thread nD τ).loc main_arg0))) b j h w _ rfl he h1 h2
      next h2 =>
        after_reads_at
        exact padded_high (scaled (m ((c : Thread nD τ).loc main_arg0))) b j h w _ rfl he h1 h2

end Cert.Proof.Latent
-- ==== Proof.Attention.lean ====
/-
  The attention itself, as a function of the queries, the keys and the values.
-/
module

public import proofs.«01_k».proof.Proof.Softmax

@[expose] public section

noncomputable section

namespace Cert.Proof.Latent

open Idealize.ShloMosaic

/-- A query's logit on a key: their dot product over the square root of the head's width. -/
def logit (q k : Fin 2 → Fin 8192 → Fin 32 → Fin 192 → EReal) (b : Fin 2) (h : Fin 32) (r j : Fin 8192) : EReal :=
  Ideal.div (∑ e, q b r h e * k b j h e) (Ideal.sqrt (Ideal.ofBits .f32 0x43400000#32))

/-- The softmax of the logits over the keys whose group is no later than the row's, on the values. -/
def weighted (x : Fin 8192 → Fin 8192 → EReal) (v : Fin 8192 → EReal) (r : Fin 8192) : EReal :=
  ∑ j, v j * Ideal.div
    (Ideal.exp ((if j.val / 64 ≤ r.val / 64 then x r j else ⊥)
      - Finset.univ.sup fun j : Fin 8192 => if j.val / 64 ≤ r.val / 64 then x r j else ⊥))
    (∑ i : Fin 8192, Ideal.exp ((if i.val / 64 ≤ r.val / 64 then x r i else ⊥)
      - Finset.univ.sup fun j : Fin 8192 => if j.val / 64 ≤ r.val / 64 then x r j else ⊥))

/-- The attention. -/
def attention (q k : Fin 2 → Fin 8192 → Fin 32 → Fin 192 → EReal) (v : Fin 2 → Fin 8192 → Fin 32 → Fin 128 → EReal)
    (b : Fin 2) (r : Fin 8192) (h : Fin 32) (d : Fin 128) : EReal :=
  weighted (logit q k b h) (fun j => v b j h d) r

theorem ofBits_192 : Ideal.ofBits .f32 0x43400000#32 = ((192 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

end Cert.Proof.Latent
-- ==== Proof.LatentScore.lean ====
/-
  A head's blocks are its padded queries and keys and its values; the scores of the padded rows are the scores of the rows.
-/
module

public import proofs.«01_k».proof.Proof.LatentArrays
public import proofs.«01_k».proof.Proof.Attention

@[expose] public section

set_option maxRecDepth 16384

noncomputable section

namespace Cert.Proof.Latent

open Idealize.ShloMosaic Idealize.ShloMosaic.TcCoe Idealize.ShloMosaic.Pointwise Cert.KernelIdeal Cert.KernelIdeal.Gen Cert.Proof.Softmax

/-- The padding adds nothing to a product of rows. -/
theorem sum_padded (h : Fin 32) (x y : Fin 192 → EReal) : ∑ w, padded h x w * padded h y w = ∑ e, x e * y e := by
  unfold padded
  by_cases he : h.val % 2 = 0
  · simp only [if_pos he]
    rw [Fin.sum_univ_add (a := 192) (b := 64)]
    refine (congrArg₂ (· + ·) (Finset.sum_congr rfl fun e _ => ?_) (Finset.sum_eq_zero fun e _ => ?_)).trans (add_zero _)
    · rw [dif_pos (show (Fin.castAdd 64 e).val < 192 from e.isLt), dif_pos (show (Fin.castAdd 64 e).val < 192 from e.isLt)]
      rfl
    · rw [dif_neg (show ¬ (Fin.natAdd 192 e).val < 192 by simp), zero_mul]
  · simp only [if_neg he]
    rw [Fin.sum_univ_add (a := 128) (b := 128), Fin.sum_univ_add (a := 128) (b := 64) (fun e => x e * y e)]
    refine congrArg₂ (· + ·) (Finset.sum_congr rfl fun e _ => ?_) ?_
    · rw [dif_pos (show (Fin.castAdd 128 e).val < 128 from e.isLt), dif_pos (show (Fin.castAdd 128 e).val < 128 from e.isLt)]
      rfl
    · rw [Fin.sum_univ_add (a := 64) (b := 64)]
      refine (congrArg₂ (· + ·) (Finset.sum_eq_zero fun e _ => ?_) (Finset.sum_congr rfl fun e _ => ?_)).trans (zero_add _)
      · have h1 : (Fin.natAdd 128 (Fin.castAdd 64 e) : Fin 256).val = 128 + e.val := rfl
        rw [dif_neg (by omega), if_pos (by omega), zero_mul]
      · have h1 : (Fin.natAdd 128 (Fin.natAdd 64 e) : Fin 256).val = 128 + (64 + e.val) := rfl
        have h2 : (⟨(Fin.natAdd 128 (Fin.natAdd 64 e) : Fin 256).val - 64, by omega⟩ : Fin 192) = Fin.natAdd 128 e :=
          Fin.ext (by show 128 + (64 + e.val) - 64 = 128 + e.val; omega)
        rw [dif_neg (by omega), if_neg (by omega), dif_neg (by omega), if_neg (by omega), h2]

/-- The queries' factor is a real. -/
theorem scale_eq : scale = ((1 / (Real.sqrt 192 * Real.log 2) : ℝ) : EReal) := by
  unfold scale
  have h2 : 0 < Real.log 2 := Real.log_pos (by norm_num)
  have h1 : 0 < Real.sqrt 192 := Real.sqrt_pos.2 (by norm_num)
  rw [ofBits_192, ofBits_two, Ideal.sqrt_coe, Ideal.log_coe, if_neg (by norm_num), if_neg (by norm_num), ← EReal.coe_mul,
    Ideal.div_coe (by positivity), one_mul]

/-- Products of real rows: the scaled one is real, and in units of the natural exponential it is the logit. -/
theorem score_logit (q k : Fin 2 → Fin 8192 → Fin 32 → Fin 192 → EReal) (hq : ∀ b j h e, ∃ y : ℝ, q b j h e = y)
    (hk : ∀ b j h e, ∃ y : ℝ, k b j h e = y) (b : Fin 2) (h : Fin 32) (r j : Fin 8192) :
    (∃ y : ℝ, ∑ e, k b j h e * (q b r h e * scale) = y)
      ∧ (∑ e, k b j h e * (q b r h e * scale)) * (Real.log 2 : ℝ) = logit q k b h r j := by
  choose Q hQ using hq
  choose K hK using hk
  have h2 : 0 < Real.log 2 := Real.log_pos (by norm_num)
  have h1 : 0 < Real.sqrt 192 := Real.sqrt_pos.2 (by norm_num)
  have hs : ∑ e, k b j h e * (q b r h e * scale)
      = ((∑ e, K b j h e * (Q b r h e * (1 / (Real.sqrt 192 * Real.log 2))) : ℝ) : EReal) := by
    rw [coe_sum]
    refine Finset.sum_congr rfl fun e _ => ?_
    rw [hK, hQ, scale_eq, ← EReal.coe_mul, ← EReal.coe_mul]
  have hl : logit q k b h r j = (((∑ e, Q b r h e * K b j h e) * (1 / Real.sqrt 192) : ℝ) : EReal) := by
    unfold logit
    rw [ofBits_192, Ideal.sqrt_coe, if_neg (by norm_num), Ideal.div_coe h1.ne', EReal.coe_mul, coe_sum]
    refine congrArg (· * _) (Finset.sum_congr rfl fun e _ => ?_)
    rw [hK, hQ, ← EReal.coe_mul]
  refine ⟨⟨_, hs⟩, ?_⟩
  rw [hs, hl, ← EReal.coe_mul]
  refine congrArg _ ?_
  rw [Finset.sum_mul, Finset.sum_mul]
  refine Finset.sum_congr rfl fun e _ => ?_
  field_simp

variable (m : (ℓ : Loc nD τ sig) → Buf (Elt Ideal) ℓ) (c : Dev nD)

theorem index_q : ∀ t : Fin cfg0.N, (cfg0.win 0).index t = ![t.val / 32, 0, t.val % 32] := by decide +kernel
theorem index_k : ∀ t : Fin cfg0.N, (cfg0.win 1).index t = ![t.val / 32, 0, t.val % 32] := by decide +kernel
theorem index_v : ∀ t : Fin cfg0.N, (cfg0.win 2).index t = ![t.val / 32, 0, t.val % 32] := by decide +kernel
theorem index_o : ∀ t : Fin cfg0.N, (cfg0.win 3).index t = ![t.val / 32, 0, t.val % 32] := by decide +kernel

/-- The sequence and the head of a grid point. -/
def seqOf (t : Fin cfg0.N) : Fin 2 := ⟨t.val / 32, by have h : t.val < 64 := t.isLt; omega⟩
def headOf (t : Fin cfg0.N) : Fin 32 := ⟨t.val % 32, by omega⟩

theorem queries_place (A : S2x8192x8192.Idx → Elt Ideal .bf16) (t : Fin cfg0.N) (r : Fin 8192) (w : Fin 256) :
    ((cfg0.win 0).blk t).view.read (Elt Ideal) A (ix3 0 r w) = A (ix3 (seqOf t) r ⟨256 * (headOf t).val + w.val, by omega⟩) := by
  blk_ext [index_q t, seqOf, headOf]

theorem queries_block (t : Fin cfg0.N) (r : Fin 8192) (w : Fin 256) :
    iblk m c 0 t (ix3 0 r w) = V m c main_v31 (ix3 (seqOf t) r ⟨256 * (headOf t).val + w.val, by omega⟩) :=
  queries_place (V m c main_v31) t r w

theorem keys_place (A : S2x8192x8192.Idx → Elt Ideal .bf16) (t : Fin cfg0.N) (r : Fin 8192) (w : Fin 256) :
    ((cfg0.win 1).blk t).view.read (Elt Ideal) A (ix3 0 r w) = A (ix3 (seqOf t) r ⟨256 * (headOf t).val + w.val, by omega⟩) := by
  blk_ext [index_k t, seqOf, headOf]

theorem keys_block (t : Fin cfg0.N) (r : Fin 8192) (w : Fin 256) :
    iblk m c 1 t (ix3 0 r w) = V m c main_v32 (ix3 (seqOf t) r ⟨256 * (headOf t).val + w.val, by omega⟩) :=
  keys_place (V m c main_v32) t r w

theorem values_place (A : S2x8192x4096.Idx → Elt Ideal .bf16) (t : Fin cfg0.N) (r : Fin 8192) (w : Fin 128) :
    ((cfg0.win 2).blk t).view.read (Elt Ideal) A (ix3 0 r w) = A (ix3 (seqOf t) r ⟨128 * (headOf t).val + w.val, by omega⟩) := by
  blk_ext [index_v t, seqOf, headOf]

theorem values_block (t : Fin cfg0.N) (r : Fin 8192) (w : Fin 128) :
    iblk m c 2 t (ix3 0 r w) = V m c main_v33 (ix3 (seqOf t) r ⟨128 * (headOf t).val + w.val, by omega⟩) :=
  values_place (V m c main_v33) t r w

end Cert.Proof.Latent
-- ==== Proof.LatentResult.lean ====
/-
  The kernel's result array is the attention of its arguments.
-/
module

public import proofs.«01_k».proof.Proof.LatentScore

@[expose] public section

set_option maxRecDepth 16384

noncomputable section

namespace Cert.Proof.Latent

open Idealize.ShloMosaic Idealize.ShloMosaic.TcCoe Idealize.ShloMosaic.Pointwise Idealize.SL.Sem Cert.KernelIdeal Cert.KernelIdeal.Gen

variable (m : (ℓ : Loc nD τ sig) → Buf (Elt Ideal) ℓ) (c : Dev nD)

/-- The arguments, by coordinates. -/
def queries (b : Fin 2) (j : Fin 8192) (h : Fin 32) (e : Fin 192) : EReal := m ((c : Thread nD τ).loc main_arg0) (ix4 b j h e)
def keys (b : Fin 2) (j : Fin 8192) (h : Fin 32) (e : Fin 192) : EReal := m ((c : Thread nD τ).loc main_arg1) (ix4 b j h e)
def values (b : Fin 2) (j : Fin 8192) (h : Fin 32) (d : Fin 128) : EReal := m ((c : Thread nD τ).loc main_arg2) (ix4 b j h d)

theorem score_block (t : Fin cfg0.N) (r j : Fin 8192) :
    score (iblk m c 0 t) (iblk m c 1 t) r j
      = ∑ e, keys m c (seqOf t) j (headOf t) e * (queries m c (seqOf t) r (headOf t) e * scale) := by
  unfold score
  rw [← sum_padded (headOf t)]
  refine Finset.sum_congr rfl fun w _ => ?_
  rw [queries_block, keys_block, queries_read, keys_read]
  rfl

theorem lane_block (t : Fin cfg0.N) (d : Fin 128) (j : Fin 8192) :
    lane (iblk m c 2 t) d j = values m c (seqOf t) j (headOf t) d := by
  have e1 : (⟨(128 * (headOf t).val + d.val) / 128, by omega⟩ : Fin 32) = headOf t := Fin.ext (by
    show (128 * (headOf t).val + d.val) / 128 = (headOf t).val; omega)
  have e2 : (⟨(128 * (headOf t).val + d.val) % 128, by omega⟩ : Fin 128) = d := Fin.ext (by
    show (128 * (headOf t).val + d.val) % 128 = d.val; omega)
  unfold lane values
  rw [values_block, values_read]
  exact congrArg₂ (fun h d => m ((c : Thread nD τ).loc main_arg2) (ix4 (seqOf t) j h d)) e1 e2

variable (hq : ∀ b j h e, ∃ y : ℝ, queries m c b j h e = y) (hk : ∀ b j h e, ∃ y : ℝ, keys m c b j h e = y)

include hq hk in
theorem attended_block (t : Fin cfg0.N) (r : Fin 8192) (d : Fin 128) :
    attended (iblk m c 0 t) (iblk m c 1 t) (iblk m c 2 t) r d
      = attention (queries m c) (keys m c) (values m c) (seqOf t) r (headOf t) d := by
  have hs : (fun r j => score (iblk m c 0 t) (iblk m c 1 t) r j * ((Real.log 2 : ℝ) : EReal))
      = logit (queries m c) (keys m c) (seqOf t) (headOf t) := by
    funext r j
    rw [score_block]
    exact (score_logit _ _ hq hk _ _ _ _).2
  have hv : lane (iblk m c 2 t) d = fun j => values m c (seqOf t) j (headOf t) d := funext fun j => lane_block m c t d j
  show weighted (fun r j => score (iblk m c 0 t) (iblk m c 1 t) r j * ((Real.log 2 : ℝ) : EReal)) (lane (iblk m c 2 t) d) r = _
  rw [hs, hv]
  rfl

/-- The result, by index. -/
def answer (i : S2x8192x4096.Idx) : Elt Ideal .bf16 :=
  attention (queries m c) (keys m c) (values m c) (i 0) (i 1)
    ⟨(i 2).val / 128, by have h : (i 2).val < 4096 := (i 2).isLt; omega⟩ ⟨(i 2).val % 128, by omega⟩

theorem out_place (A : S2x8192x4096.Idx → Elt Ideal .bf16) (t : Fin cfg0.N) (r : Fin 8192) (d : Fin 128) :
    A (((cfg0.win 3).blk t).view.emb (ix3 0 r d)) = A (ix3 (seqOf t) r ⟨128 * (headOf t).val + d.val, by omega⟩) := by
  blk_ext [index_o t, seqOf, headOf]

theorem answer_place (t : Fin cfg0.N) (r : Fin 8192) (d : Fin 128) :
    answer m c (((cfg0.win 3).blk t).view.emb (ix3 0 r d))
      = attention (queries m c) (keys m c) (values m c) (seqOf t) r (headOf t) d := by
  have e1 : (⟨(128 * (headOf t).val + d.val) / 128, by omega⟩ : Fin 32) = headOf t := Fin.ext (by
    show (128 * (headOf t).val + d.val) / 128 = (headOf t).val; omega)
  have e2 : (⟨(128 * (headOf t).val + d.val) % 128, by omega⟩ : Fin 128) = d := Fin.ext (by
    show (128 * (headOf t).val + d.val) % 128 = d.val; omega)
  rw [out_place (answer m c)]
  exact congrArg₂ (fun h d => attention (queries m c) (keys m c) (values m c) (seqOf t) r h d) e1 e2

include hq hk in
theorem head_block (t : Fin cfg0.N) (y : S1x8192x128.Idx) :
    head (F := Ideal) (iblk m c 0 t) (iblk m c 1 t) (iblk m c 2 t) y = answer m c (((cfg0.win 3).blk t).view.emb y) := by
  obtain ⟨a, r, d, rfl⟩ : ∃ (a : Fin 1) (r : Fin 8192) (d : Fin 128), y = ix3 a r d := ⟨_, _, _, eq_ix3 y⟩
  obtain rfl : a = 0 := Subsingleton.elim _ _
  rw [head_eq (fun r j => by rw [score_block]; exact (score_logit _ _ hq hk _ _ _ _).1), block_at, answer_place]
  exact attended_block m c hq hk t r d

include hq hk in
theorem array_eq : (dats (F := Ideal) m 0 c).arrAt 3 (cfgs 0).N = answer m c := by
  refine (dats (F := Ideal) m 0 c).arrAt_eq_of_covers 3 _ (by decide +kernel) fun t hf y => ?_
  blk_simp
  rw [after_o]
  exact head_block m c hq hk t y

end Cert.Proof.Latent
-- ==== Proof.LatentReference.lean ====
/-
  The reference's result at an index.
-/
module

public import proofs.«01_k».proof.Proof.Attention
public import proofs.«01_k».proof.Proof.Gen.ReferenceIdeal
public import proofs.«01_k».proof.Proof.Gen.ReferenceIdeal.Run
public import Idealize.ShloMosaic.Lib.ReduceAll
public import Idealize.ShloMosaic.Lib.Pointwise

@[expose] public section

set_option maxRecDepth 16384

noncomputable section

namespace Cert.Proof.Latent

open Idealize.ShloMosaic Idealize.ShloMosaic.TcCoe Idealize.ShloMosaic.Pointwise Cert.ReferenceIdeal Cert.ReferenceIdeal.Gen Cert.ReferenceIdeal.Value

variable (m : (ℓ : Loc nD τ sig) → Buf (Elt Ideal) ℓ) (c : Dev nD)

/-- A position's group. -/
def group : IVec S8192 32 :=
  (select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32)))))

theorem group_at (i : Fin 8192) : group (ix1 i) = BitVec.ofNat 32 (i.val / 64) := by
  have hg : ∀ a : Fin 8192, Scalar.select
      (IntOp.andi
        (IntOp.cmpi .ne (if BitVec.ofNat 32 a.val = 0 then 0 else if (BitVec.ofNat 32 a.val).msb = true then -1 else 1 : BitVec 32)
          (if (64#32 : BitVec 32) = 0 then 0 else if (64#32 : BitVec 32).msb = true then -1 else 1))
        (IntOp.cmpi .ne (IntOp.remsi ArithUnit.host (BitVec.ofNat 32 a.val) 64#32) 0#32))
      (IntOp.subi (IntOp.divsi ArithUnit.host (BitVec.ofNat 32 a.val) 64#32) 1#32)
      (IntOp.divsi ArithUnit.host (BitVec.ofNat 32 a.val) 64#32) = BitVec.ofNat 32 (a.val / 64) := by
    decide +kernel
  pointwise [group]
  exact hg i

variable (q k : FVec Ideal S2x8192x32x192 .f32) (v : FVec Ideal S2x8192x32x128 .f32)

/-- Which keys a row sees. -/
def visible : IVec S8192x8192 1 :=
  cmpi .sle (broadcastInDim S8192x8192 ![0, 1] bcast_S1x8192_S8192x8192_0_1 (broadcastInDim S1x8192 ![1] bcast_S8192_S1x8192_1 group))
    (broadcastInDim S8192x8192 ![0, 1] bcast_S8192x1_S8192x8192_0_1 (broadcastInDim S8192x1 ![0] bcast_S8192_S8192x1_0 group))

theorem visible_at (r j : Fin 8192) : visible (ix2 r j) = BitVec.ofBool (decide (j.val / 64 ≤ r.val / 64)) := by
  pointwise [visible]
  simp only [group_at]
  have hc : ∀ a b : Fin 128, IntOp.cmpi .sle (BitVec.ofNat 32 a.val) (BitVec.ofNat 32 b.val) = BitVec.ofBool (decide (a.val ≤ b.val)) := by
    decide +kernel
  exact hc ⟨j.val / 64, by omega⟩ ⟨r.val / 64, by omega⟩

theorem least : Ideal.ofBits FTy.f32 0xFF800000#32 = ⊥ := by
  simp [Ideal.ofBits, Ideal.ieee]

/-- The logits under the mask. -/
def shown : FVec Ideal S2x32x8192x8192 .f32 :=
  select (broadcastInDim S2x32x8192x8192 ![2, 3] bcast_S8192x8192_S2x32x8192x8192_2_3 visible)
    (Host.divf (Host.dotGeneral dot_S2x8192x32x192_S2x8192x32x192_S2x32x8192x8192_3_3_1_1_02_02 none q k)
      (broadcastInDim S2x32x8192x8192 ![] bcast_S_S2x32x8192x8192 (Host.sqrt (constant S_ .f32 0x43400000#32))))
    (broadcastInDim S2x32x8192x8192 ![] bcast_S_S2x32x8192x8192 (id (constant S_ .f32 0xFF800000#32)))

theorem shown_at (b : Fin 2) (h : Fin 32) (r j : Fin 8192) :
    shown q k (ix4 b h r j) = if j.val / 64 ≤ r.val / 64 then
      logit (fun b j h e => q (ix4 b j h e)) (fun b j h e => k (ix4 b j h e)) b h r j else ⊥ := by
  pointwise [shown]
  simp only [visible_at]
  by_cases hv : j.val / 64 ≤ r.val / 64
  · rw [if_pos hv, decide_eq_true hv]
    rfl
  · rw [if_neg hv, decide_eq_false hv]
    exact least

theorem reduce_max {s t u : Shape} {a : Fin s.rank} (x : FVec Ideal s .f32) (h' : s.ReducesTo [a] t) (h : s.Reduces [a] t)
    (hu : 0 < u.numel) (j : t.Idx) :
    Host.reduce (FloatOps.maximumf (F := Ideal) (φ := .f32)) x (constant u .f32 0xFF800000#32) h' hu j
      = Finset.univ.sup fun k => (x (h.lift j k) : EReal) :=
  Host.reduce_eq_fold_single _ x _ h' h hu j

/-- A row's largest logit. -/
def largest : FVec Ideal S2x32x8192 .f32 :=
  Host.reduce FloatOps.maximumf (shown q k) (constant S_ .f32 0xFF800000#32) reducesTo_S2x32x8192x8192_S2x32x8192_d3 h_S_

theorem last_axis : S2x32x8192x8192.Reduces [3] S2x32x8192 := by decide

theorem lift_last (b : Fin 2) (h : Fin 32) (r : Fin 8192) (j : Fin (S2x32x8192x8192.size 3)) :
    last_axis.lift (ix3 b h r) j = ix4 b h r j := by
  funext e
  apply Fin.ext
  rw [Shape.Reduces.lift_val]
  fin_cases e <;> rfl

theorem largest_at (b : Fin 2) (h : Fin 32) (r : Fin 8192) :
    largest q k (ix3 b h r) = Finset.univ.sup fun j => (shown q k (ix4 b h r j) : EReal) := by
  unfold largest
  generalize shown q k = x
  rw [reduce_max x _ last_axis]
  exact congrArg (fun f => (Finset.univ : Finset (Fin 8192)).sup f) (funext fun j => congrArg x (lift_last b h r j))

/-- The exponentials of the logits below the row's largest. -/
def powers : FVec Ideal S2x32x8192x8192 .f32 :=
  Host.exp (subf (shown q k) (broadcastInDim S2x32x8192x8192 ![0, 1, 2, 3] bcast_S2x32x8192x1_S2x32x8192x8192_0_1_2_3
    (broadcastInDim S2x32x8192x1 ![0, 1, 2] bcast_S2x32x8192_S2x32x8192x1_0_1_2
      (maximumf (broadcastInDim S2x32x8192 ![] bcast_S_S2x32x8192 (constant S_ .f32 0xFF800000#32)) (largest q k)))))

theorem max_least (y : EReal) : max (Ideal.ofBits FTy.f32 0xFF800000#32) y = y := by
  rw [least]
  exact max_eq_right bot_le

theorem exp_below (x : FVec Ideal S2x32x8192x8192 .f32) (y : FVec Ideal S2x32x8192 .f32) (b : Fin 2) (h : Fin 32) (r j : Fin 8192) :
    Host.exp (subf x (broadcastInDim S2x32x8192x8192 ![0, 1, 2, 3] bcast_S2x32x8192x1_S2x32x8192x8192_0_1_2_3
      (broadcastInDim S2x32x8192x1 ![0, 1, 2] bcast_S2x32x8192_S2x32x8192x1_0_1_2
        (maximumf (broadcastInDim S2x32x8192 ![] bcast_S_S2x32x8192 (constant S_ .f32 0xFF800000#32)) y)))) (ix4 b h r j)
      = Ideal.exp (x (ix4 b h r j) - y (ix3 b h r)) := by
  pointwise
  rw [max_least]

theorem powers_of_largest (b : Fin 2) (h : Fin 32) (r j : Fin 8192) :
    powers q k (ix4 b h r j) = Ideal.exp (shown q k (ix4 b h r j) - largest q k (ix3 b h r)) :=
  exp_below (shown q k) (largest q k) b h r j

theorem powers_at (b : Fin 2) (h : Fin 32) (r j : Fin 8192) :
    powers q k (ix4 b h r j) = Ideal.exp (shown q k (ix4 b h r j) - Finset.univ.sup fun j => (shown q k (ix4 b h r j) : EReal)) := by
  rw [powers_of_largest, largest_at]

/-- The result. -/
def result : FVec Ideal S2x8192x4096 .bf16 :=
  truncf .bf16 (shapeCast S2x8192x4096 (transpose S2x8192x32x128 [0, 3, 1, 2]
    (Host.dotGeneral dot_S2x8192x32x128_S2x32x8192x8192_S2x32x128x8192_1_3_3_2_02_01 none v
      (Host.divf (powers q k) (broadcastInDim S2x32x8192x8192 ![0, 1, 2, 3] bcast_S2x32x8192x1_S2x32x8192x8192_0_1_2_3
        (broadcastInDim S2x32x8192x1 ![0, 1, 2] bcast_S2x32x8192_S2x32x8192x1_0_1_2
          (Host.reduceAdd (powers q k) (constant S_ .f32 0x00000000#32) reducesTo_S2x32x8192x8192_S2x32x8192_d3 h_S_)))))
    transposes_S2x32x128x8192_S2x8192x32x128_0_3_1_2) shapeCasts_S2x8192x32x128_S2x8192x4096) bitsLt_bf16_f32

theorem result_at (b : Fin 2) (r : Fin 8192) (n : Fin 4096) :
    result q k v (ix3 b r n)
      = attention (fun b j h e => q (ix4 b j h e)) (fun b j h e => k (ix4 b j h e))
          (fun b j h e => v (ix4 b j h e)) b r ⟨n.val / 128, by omega⟩ ⟨n.val % 128, by omega⟩ := by
  pointwise [result]
  simp only [powers_at, shown_at]
  rfl

theorem reference_eq : res_main_v27 m c
    = result (m ((c : Thread nD τ).loc main_arg0)) (m ((c : Thread nD τ).loc main_arg1)) (m ((c : Thread nD τ).loc main_arg2)) := rfl

end Cert.Proof.Latent
-- ==== Proof.LatentClaim.lean ====
/-
  Over the extended reals, on finite queries and keys, the kernel and the reference end with the same result.
-/
module

public import proofs.«01_k».proof.Defs
public import proofs.«01_k».proof.Proof.LatentResult
public import proofs.«01_k».proof.Proof.LatentReference
public import proofs.«01_k».proof.Proof.LatentFrames
public import proofs.«01_k».proof.Proof.Gen.Pre_finite_scores

@[expose] public section

set_option maxRecDepth 16384

noncomputable section

namespace Cert.Proof.Latent

open Idealize.ShloMosaic Idealize.ShloMosaic.TcCoe Idealize.ShloMosaic.Pointwise Idealize.SL.Sem

theorem infinite : Ideal.ofBits FTy.f32 0x7F800000#32 = ⊤ := by
  simp [Ideal.ofBits, Ideal.ieee]

/-- A number whose absolute value is below infinity is real. -/
theorem real_of_abs (x : EReal) (h : max x (-x) < ⊤) : ∃ y : ℝ, x = y := by
  induction x using EReal.rec with
  | bot => simp at h
  | top => simp at h
  | coe r => exact ⟨r, rfl⟩

/-- A test that every entry's absolute value is below infinity, read at an entry. -/
theorem real_of_test (x : FVec Ideal Cert.Pre_finite_scores.S2x8192x32x192 .f32) (b : Fin 2) (j : Fin 8192) (h : Fin 32) (e : Fin 192)
    (ht : cmpf .olt (Host.absf x) (broadcastInDim Cert.Pre_finite_scores.S2x8192x32x192 ![] Cert.Pre_finite_scores.Gen.bcast_S_S2x8192x32x192
      (constant Cert.Pre_finite_scores.S_ .f32 0x7F800000#32)) (ix4 b j h e) = 1#1) : ∃ y : ℝ, (x (ix4 b j h e) : EReal) = y := by
  have ht' : BitVec.ofBool (decide (max (x (ix4 b j h e) : EReal) (-(x (ix4 b j h e) : EReal)) < Ideal.ofBits FTy.f32 0x7F800000#32)) = 1#1 := ht
  rw [infinite] at ht'
  refine real_of_abs _ ?_
  by_contra hn
  rw [decide_eq_false hn] at ht'
  exact absurd ht' (by decide)

/-- What the precondition says of the queries and the keys. -/
theorem finite_of_pre (x y : FVec Ideal Cert.Pre_finite_scores.S2x8192x32x192 .f32) (z : FVec Ideal Cert.Pre_finite_scores.S2x8192x32x128 .f32)
    (h : Cert.Pre_finite_scores.fn (F := Ideal) x y z = fun _ => 1#1) (b : Fin 2) (j : Fin 8192) (g : Fin 32) (e : Fin 192) :
    (∃ r : ℝ, (x (ix4 b j g e) : EReal) = r) ∧ ∃ r : ℝ, (y (ix4 b j g e) : EReal) = r := by
  have h0 := congrFun h ix0
  dsimp only [Cert.Pre_finite_scores.fn] at h0
  have hs : Subsingleton Cert.Pre_finite_scores.S_.Idx := ⟨fun a b => funext fun k => k.elim0⟩
  have ha : ∀ p q : BitVec 1, IntOp.andi p q = 1#1 → p = 1#1 ∧ q = 1#1 := by decide
  obtain ⟨h1, h2⟩ := ha _ _ h0
  exact ⟨real_of_test x b j g e (Host.reduce_andi_all _ _ _ _ _ h1 _), real_of_test y b j g e (Host.reduce_andi_all _ _ _ _ _ h2 _)⟩

/-- The reference's result on the kernel's arguments. -/
theorem reference_answer (m : (ℓ : Loc Cert.KernelIdeal.nD Cert.KernelIdeal.τ Cert.KernelIdeal.sig) → Buf (Elt Ideal) ℓ)
    (c : Dev Cert.KernelIdeal.nD) :
    result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)) = answer m c := by
  funext i
  obtain ⟨b, r, n, rfl⟩ : ∃ (b : Fin 2) (r : Fin 8192) (n : Fin 4096), i = ix3 b r n := ⟨_, _, _, eq_ix3 i⟩
  exact result_at _ _ _ b r n

/-- The two results agree. -/
theorem algebraic : Cert.algebraic_KernelIdeal_ReferenceIdeal_pre_finite_scores := by
  intro m g m' g' hpre hag
  refine ⟨fun c => answer m c, ?_, ?_⟩
  · refine (θ_run _ _ _).mono (fun r h c => ⟨?_, h.2.1 c⟩) (θ_run_and (run (F := Ideal) m g) (frame_run (F := Ideal) m g))
    exact (h.1.out_eq c 3).trans (array_eq m c (fun b j e f => (finite_of_pre _ _ _ (hpre c) b j e f).1)
      (fun b j e f => (finite_of_pre _ _ _ (hpre c) b j e f).2))
  · refine (θ_run _ _ _).mono (fun r h c => ⟨(h c).1.trans ?_, (h c).2⟩) (Cert.ReferenceIdeal.Value.run m' g')
    rw [reference_eq, (hag c).1, (hag c).2.1, (hag c).2.2]
    exact reference_answer m c

end Cert.Proof.Latent
-- ==== Proof.FeedFrames.lean ====
/-
  The frames of the two feed-forward products. Each kernel's program and its idealization have one text, so the run of
  the idealization's program at bit values is the kernel's.
-/
module

public import proofs.«01_k».proof.Defs
public import proofs.«01_k».proof.Proof.Gen.Kernel2
public import proofs.«01_k».proof.Proof.Gen.Kernel3
public import proofs.«01_k».proof.Proof.Gen.Kernel2Ideal.Frame
public import proofs.«01_k».proof.Proof.Gen.Kernel3Ideal.Frame
public import proofs.«01_k».proof.Proof.Gen.Reference2Ideal.Run
public import proofs.«01_k».proof.Proof.Gen.Reference3Ideal.Run

@[expose] public section

noncomputable section

namespace Cert.Proof

open Idealize.ShloMosaic Idealize.SL.Sem

namespace Widen

/-- One kernel function, under two names. -/
theorem body_same : @Cert.Kernel2.cc0_mlp_up Bits _ _ = @Cert.Kernel2Ideal.cc0_mlp_up Bits _ _ := rfl

/-- Hence one body table, -/
theorem table_same : Cert.Kernel2.defs₀ (F := Bits) = Cert.Kernel2Ideal.defs₀ (F := Bits) := by
  unfold Cert.Kernel2.defs₀ Cert.Kernel2Ideal.defs₀
  congr 1
  funext l a
  match l, a with
  | 0, a => exact congrFun (congrFun (congrFun (congrFun (congrFun (congrFun (congrFun body_same _) _) _) _) _) _) _

theorem defs_same : Cert.Kernel2.defs (F := Bits) = Cert.Kernel2Ideal.defs (F := Bits) :=
  congrArg (Pipeline.defs Cert.Kernel2Ideal.pcfgs) table_same

/-- and one main. -/
theorem main_same : Cert.Kernel2.main (F := Bits) = Cert.Kernel2Ideal.main (F := Bits) := rfl

theorem frame_kernel : Cert.quiescent_Kernel2 := fun m ρ _ => by
  rw [defs_same, main_same]
  exact Cert.Kernel2Ideal.Gen.frame (F := Bits) m ρ

theorem frame_ideal : Cert.quiescent_Kernel2Ideal := fun m ρ _ => Cert.Kernel2Ideal.Gen.frame (F := Ideal) m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

end Widen

namespace Narrow

/-- One kernel function, under two names. -/
theorem body_same : @Cert.Kernel3.cc0_mlp_down Bits _ _ = @Cert.Kernel3Ideal.cc0_mlp_down Bits _ _ := rfl

/-- Hence one body table, -/
theorem table_same : Cert.Kernel3.defs₀ (F := Bits) = Cert.Kernel3Ideal.defs₀ (F := Bits) := by
  unfold Cert.Kernel3.defs₀ Cert.Kernel3Ideal.defs₀
  congr 1
  funext l a
  match l, a with
  | 0, a => exact congrFun (congrFun (congrFun (congrFun (congrFun (congrFun (congrFun (congrFun (congrFun (congrFun
      (congrFun (congrFun (congrFun body_same _) _) _) _) _) _) _) _) _) _) _) _) _

theorem defs_same : Cert.Kernel3.defs (F := Bits) = Cert.Kernel3Ideal.defs (F := Bits) :=
  congrArg (Pipeline.defs Cert.Kernel3Ideal.pcfgs) table_same

/-- and one main. -/
theorem main_same : Cert.Kernel3.main (F := Bits) = Cert.Kernel3Ideal.main (F := Bits) := rfl

theorem frame_kernel : Cert.quiescent_Kernel3 := fun m ρ _ => by
  rw [defs_same, main_same]
  exact Cert.Kernel3Ideal.Gen.frame (F := Bits) m ρ

theorem frame_ideal : Cert.quiescent_Kernel3Ideal := fun m ρ _ => Cert.Kernel3Ideal.Gen.frame (F := Ideal) m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

end Narrow

end Cert.Proof

end
-- ==== Proof.Widen.lean ====
/-
  The widening product of the feed-forward part: the kernel's result array is the square of the product's positive part.
-/
module

public import proofs.«01_k».proof.Proof.Gen.Kernel2Ideal.Value
public import Idealize.ShloMosaic.Lib.StableHlo.ReadAt
public import Idealize.ShloMosaic.Lib.Pipeline.ValueKit

@[expose] public section

set_option maxRecDepth 16384

noncomputable section

namespace Cert.Proof.Widen

open Idealize.ShloMosaic Idealize.ShloMosaic.TcCoe Idealize.ShloMosaic.Pointwise Idealize.SL.Sem Cert.Kernel2Ideal Cert.Kernel2Ideal.Gen

/-- The square of the positive part. -/
def bent (x : EReal) : EReal := max x 0 * max x 0

theorem pay_at (x : Vec Ideal S1024x4096 .bf16) (w : Vec Ideal S4096x512 .bf16) (r : Fin 1024) (n : Fin 512) :
    k0_pay1 (F := Ideal) x w (ix2 r n) = bent (∑ k : Fin 4096, x (ix2 r k) * w (ix2 k n)) := by
  pointwise [k0_pay1]
  rfl

theorem out_at (x : Vec Ideal S1024x4096 .bf16) (w : Vec Ideal S4096x512 .bf16) (r : Fin 1024) (n : Fin 512) :
    out0_2 (F := Ideal) x w (ix2 r n) = bent (∑ k : Fin 4096, x (ix2 r k) * w (ix2 k n)) := by
  rw [← pay_at]
  unfold out0_2
  frame_out

theorem index_x : ∀ t : Fin cfg0.N, (cfg0.win 0).index t = ![t.val / 32, 0] := by decide +kernel
theorem index_w : ∀ t : Fin cfg0.N, (cfg0.win 1).index t = ![0, t.val % 32] := by decide +kernel
theorem index_o : ∀ t : Fin cfg0.N, (cfg0.win 2).index t = ![t.val / 32, t.val % 32] := by decide +kernel

/-- The row block and the column block of a grid point. -/
def rowOf (t : Fin cfg0.N) (r : Fin 1024) : Fin 16384 := ⟨1024 * (t.val / 32) + r.val, by have h : t.val < 512 := t.isLt; omega⟩
def colOf (t : Fin cfg0.N) (n : Fin 512) : Fin 16384 := ⟨512 * (t.val % 32) + n.val, by omega⟩

theorem x_place (A : S16384x4096.Idx → Elt Ideal .bf16) (t : Fin cfg0.N) (r : Fin 1024) (k : Fin 4096) :
    ((cfg0.win 0).blk t).view.read (Elt Ideal) A (ix2 r k) = A (ix2 (rowOf t r) k) := by
  blk_ext [index_x t, rowOf]

theorem w_place (A : S4096x16384.Idx → Elt Ideal .bf16) (t : Fin cfg0.N) (k : Fin 4096) (n : Fin 512) :
    ((cfg0.win 1).blk t).view.read (Elt Ideal) A (ix2 k n) = A (ix2 k (colOf t n)) := by
  blk_ext [index_w t, colOf]

theorem out_place (A : S16384x16384.Idx → Elt Ideal .bf16) (t : Fin cfg0.N) (r : Fin 1024) (n : Fin 512) :
    A (((cfg0.win 2).blk t).view.emb (ix2 r n)) = A (ix2 (rowOf t r) (colOf t n)) := by
  blk_ext [index_o t, rowOf, colOf]

variable (m : (ℓ : Loc nD τ sig) → Buf (Elt Ideal) ℓ) (c : Dev nD)

theorem x_read (i : S16384x4096.Idx) : V m c main_v0 i = m ((c : Thread nD τ).loc main_arg0) i := by
  unfold V
  after_reads_at

theorem w_read (i : S4096x16384.Idx) : V m c main_v1 i = m ((c : Thread nD τ).loc main_arg1) i := by
  unfold V
  after_reads_at

theorem x_block (t : Fin cfg0.N) (r : Fin 1024) (k : Fin 4096) :
    iblk m c 0 t (ix2 r k) = m ((c : Thread nD τ).loc main_arg0) (ix2 (rowOf t r) k) :=
  (x_place (V m c main_v0) t r k).trans (x_read m c _)

theorem w_block (t : Fin cfg0.N) (k : Fin 4096) (n : Fin 512) :
    iblk m c 1 t (ix2 k n) = m ((c : Thread nD τ).loc main_arg1) (ix2 k (colOf t n)) :=
  (w_place (V m c main_v1) t k n).trans (w_read m c _)

/-- The widened rows of two arrays. -/
def widened (x : S16384x4096.Idx → EReal) (w : S4096x16384.Idx → EReal) (i : S16384x16384.Idx) : EReal :=
  bent (∑ k : Fin 4096, x (ix2 (i 0) k) * w (ix2 k (i 1)))

/-- The result, by index. -/
def answer (i : S16384x16384.Idx) : Elt Ideal .bf16 :=
  widened (m ((c : Thread nD τ).loc main_arg0)) (m ((c : Thread nD τ).loc main_arg1)) i

theorem answer_block (t : Fin cfg0.N) (y : S1024x512.Idx) :
    out0_2 (F := Ideal) (iblk m c 0 t) (iblk m c 1 t) y = answer m c (((cfg0.win 2).blk t).view.emb y) := by
  obtain ⟨r, n, rfl⟩ : ∃ (r : Fin 1024) (n : Fin 512), y = ix2 r n := ⟨_, _, eq_ix2 y⟩
  rw [out_at, out_place (answer m c)]
  exact congrArg bent (Finset.sum_congr rfl fun k _ => congrArg₂ (fun a b : EReal => a * b) (x_block m c t r k) (w_block m c t k n))

theorem array_eq : (dats (F := Ideal) m 0 c).arrAt 2 (cfgs 0).N = answer m c := by
  refine (dats (F := Ideal) m 0 c).arrAt_eq_of_covers 2 _ (by decide +kernel) fun t hf y => ?_
  blk_simp
  rw [after0_2]
  exact answer_block m c t y

end Cert.Proof.Widen
-- ==== Proof.Narrow.lean ====
/-
  The narrowing product of the feed-forward part: the kernel's result array is the input plus the gate times the product.
-/
module

public import proofs.«01_k».proof.Proof.Gen.Kernel3Ideal.Value
public import Idealize.ShloMosaic.Lib.StableHlo.ReadAt
public import Idealize.ShloMosaic.Lib.Pipeline.ValueKit

@[expose] public section

set_option maxRecDepth 16384

noncomputable section

namespace Cert.Proof.Narrow

open Idealize.ShloMosaic Idealize.ShloMosaic.TcCoe Idealize.ShloMosaic.Pointwise Idealize.SL.Sem Cert.Kernel3Ideal Cert.Kernel3Ideal.Gen

theorem zero_at (r n : Fin 1024) : k0_pay1 (F := Ideal) (ix2 r n) = (0 : EReal) := by
  pointwise [k0_pay1]

theorem step_at (w : Vec Ideal S2048x1024 .bf16) (acc : Vec Ideal S1024x1024 .f32) (u : Vec Ideal S1024x2048 .bf16) (r n : Fin 1024) :
    k0_pay2 (F := Ideal) w acc u (ix2 r n) = acc (ix2 r n) + ∑ k : Fin 2048, u (ix2 r k) * w (ix2 k n) := by
  pointwise [k0_pay2]

theorem last_at (x : Vec Ideal S1024x1024 .f32) (g : Vec Ideal S1x1x1x1024 .f32) (acc : Vec Ideal S1024x1024 .f32) (r n : Fin 1024) :
    k0_pay3 (F := Ideal) x g acc (ix2 r n) = x (ix2 r n) + g (ix4 0 0 0 n) * acc (ix2 r n) := by
  pointwise [k0_pay3]

theorem index_u : ∀ t : Fin cfg0.N, (cfg0.win 0).index t = ![t.val / 32, t.val % 8] := by decide +kernel
theorem index_w : ∀ t : Fin cfg0.N, (cfg0.win 1).index t = ![t.val % 8, t.val / 8 % 4] := by decide +kernel
theorem index_x : ∀ t : Fin cfg0.N, (cfg0.win 2).index t = ![t.val / 32, t.val / 8 % 4] := by decide +kernel
theorem index_g : ∀ t : Fin cfg0.N, (cfg0.win 3).index t = ![1, t.val / 256, 0, 8 + t.val / 8 % 4] := by decide +kernel
theorem index_o : ∀ t : Fin cfg0.N, (cfg0.win 4).index t = ![t.val / 32, t.val / 8 % 4] := by decide +kernel

/-- The rows, the columns, the summed lanes and the sequence of a grid point. -/
def rowOf (t : Fin cfg0.N) (r : Fin 1024) : Fin 16384 := ⟨1024 * (t.val / 32) + r.val, by have h : t.val < 512 := t.isLt; omega⟩
def colOf (t : Fin cfg0.N) (n : Fin 1024) : Fin 4096 := ⟨1024 * (t.val / 8 % 4) + n.val, by omega⟩
def laneOf (t : Fin cfg0.N) (k : Fin 2048) : Fin 16384 := ⟨2048 * (t.val % 8) + k.val, by omega⟩
def seqOf (t : Fin cfg0.N) : Fin 16 := ⟨t.val / 256, by have h : t.val < 512 := t.isLt; omega⟩
def gateOf (t : Fin cfg0.N) (n : Fin 1024) : Fin 12288 := ⟨1024 * (8 + t.val / 8 % 4) + n.val, by omega⟩

theorem u_place (A : S16384x16384.Idx → Elt Ideal .bf16) (t : Fin cfg0.N) (r : Fin 1024) (k : Fin 2048) :
    ((cfg0.win 0).blk t).view.read (Elt Ideal) A (ix2 r k) = A (ix2 (rowOf t r) (laneOf t k)) := by
  blk_ext [index_u t, rowOf, laneOf]

theorem w_place (A : S16384x4096.Idx → Elt Ideal .bf16) (t : Fin cfg0.N) (k : Fin 2048) (n : Fin 1024) :
    ((cfg0.win 1).blk t).view.read (Elt Ideal) A (ix2 k n) = A (ix2 (laneOf t k) (colOf t n)) := by
  blk_ext [index_w t, laneOf, colOf]

theorem x_place (A : S16384x4096.Idx → Elt Ideal .f32) (t : Fin cfg0.N) (r n : Fin 1024) :
    ((cfg0.win 2).blk t).view.read (Elt Ideal) A (ix2 r n) = A (ix2 (rowOf t r) (colOf t n)) := by
  blk_ext [index_x t, rowOf, colOf]

theorem g_place (A : S4x16x1x12288.Idx → Elt Ideal .f32) (t : Fin cfg0.N) (n : Fin 1024) :
    ((cfg0.win 3).blk t).view.read (Elt Ideal) A (ix4 0 0 0 n) = A (ix4 1 (seqOf t) 0 (gateOf t n)) := by
  blk_ext [index_g t, seqOf, gateOf]

theorem out_place (A : S16384x4096.Idx → Elt Ideal .f32) (t : Fin cfg0.N) (r n : Fin 1024) :
    A (((cfg0.win 4).blk t).view.emb (ix2 r n)) = A (ix2 (rowOf t r) (colOf t n)) := by
  blk_ext [index_o t, rowOf, colOf]

variable (m : (ℓ : Loc nD τ sig) → Buf (Elt Ideal) ℓ) (c : Dev nD)

theorem u_read (i : S16384x16384.Idx) : V m c main_v1 i = m ((c : Thread nD τ).loc main_arg0) i := by
  unfold V
  after_reads_at

theorem w_read (i : S16384x4096.Idx) : V m c main_v2 i = m ((c : Thread nD τ).loc main_arg1) i := by
  unfold V
  after_reads_at

theorem x_read (i : S16384x4096.Idx) : V m c main_arg2 i = m ((c : Thread nD τ).loc main_arg2) i := by
  unfold V
  after_reads_at

theorem g_read (s : Fin 4) (b : Fin 16) (n : Fin 12288) :
    V m c main_v0 (ix4 s b 0 n) = m ((c : Thread nD τ).loc main_arg3) (ix3 s b n) := by
  unfold V
  after_reads_at

theorem u_block (t : Fin cfg0.N) (r : Fin 1024) (k : Fin 2048) :
    iblk m c 0 t (ix2 r k) = m ((c : Thread nD τ).loc main_arg0) (ix2 (rowOf t r) (laneOf t k)) :=
  (u_place (V m c main_v1) t r k).trans (u_read m c _)

theorem w_block (t : Fin cfg0.N) (k : Fin 2048) (n : Fin 1024) :
    iblk m c 1 t (ix2 k n) = m ((c : Thread nD τ).loc main_arg1) (ix2 (laneOf t k) (colOf t n)) :=
  (w_place (V m c main_v2) t k n).trans (w_read m c _)

theorem x_block (t : Fin cfg0.N) (r n : Fin 1024) :
    iblk m c 2 t (ix2 r n) = m ((c : Thread nD τ).loc main_arg2) (ix2 (rowOf t r) (colOf t n)) :=
  (x_place (V m c main_arg2) t r n).trans (x_read m c _)

theorem g_block (t : Fin cfg0.N) (n : Fin 1024) :
    iblk m c 3 t (ix4 0 0 0 n) = m ((c : Thread nD τ).loc main_arg3) (ix3 1 (seqOf t) (gateOf t n)) :=
  (g_place (V m c main_v0) t n).trans (g_read m c _ _ _)

/-- A run's first point starts the sum from zero, -/
theorem held_first (t : Fin cfg0.N) (h : t.val % 8 = 0) :
    (outsAt0 (F := Ideal) m c t.val t.isLt).2 = k0_pay2 (iblk m c 1 t) (k0_pay1 (F := Ideal)) (iblk m c 0 t) := by
  rw [outsAt0_A m c t h (by omega)]
  frame_out

/-- the others add to it, -/
theorem held_next (t : Fin cfg0.N) (h : ¬t.val % 8 = 0) :
    (outsAt0 (F := Ideal) m c t.val t.isLt).2
      = k0_pay2 (iblk m c 1 t) (outsAt0 (F := Ideal) m c (t.val - 1) (Nat.lt_of_le_of_lt (Nat.sub_le _ _) t.isLt)).2 (iblk m c 0 t) := by
  by_cases h1 : t.val % 8 = 7
  · rw [outsAt0_C m c t h h1]
    frame_out
    exact congrArg (fun a => k0_pay2 (iblk m c 1 t) a (iblk m c 0 t)) (Memref.IsWhole.read_unread _ _)
  · rw [outsAt0_B m c t h h1]
    frame_out
    exact congrArg (fun a => k0_pay2 (iblk m c 1 t) a (iblk m c 0 t)) (Memref.IsWhole.read_unread _ _)

/-- and the last writes the result. -/
theorem written (t : Fin cfg0.N) (h : t.val % 8 = 7) :
    (outsAt0 (F := Ideal) m c t.val t.isLt).1
      = k0_pay3 (iblk m c 2 t) (iblk m c 3 t) (outsAt0 (F := Ideal) m c t.val t.isLt).2 := by
  rw [outsAt0_C m c t (by omega) h]
  frame_out

/-- The product of two arrays at a row and a column, -/
def product (u : S16384x16384.Idx → EReal) (w : S16384x4096.Idx → EReal) (r : Fin 16384) (n : Fin 4096) : EReal :=
  ∑ k : Fin 16384, u (ix2 r k) * w (ix2 k n)

/-- and a grid point's part of it. -/
def part (u : S16384x16384.Idx → EReal) (w : S16384x4096.Idx → EReal) (t : Fin cfg0.N) (i : S1024x1024.Idx) : EReal :=
  ∑ k : Fin 2048, u (ix2 (rowOf t (i 0)) (laneOf t k)) * w (ix2 (laneOf t k) (colOf t (i 1)))

theorem sum_parts (u : S16384x16384.Idx → EReal) (w : S16384x4096.Idx → EReal) (t : Fin cfg0.N) (r n : Fin 1024)
    (ht : ∀ s : Fin 8, 8 * (t.val / 8) + s.val < cfg0.N) :
    ∑ s : Fin 8, part u w ⟨8 * (t.val / 8) + s.val, ht s⟩ (ix2 r n) = product u w (rowOf t r) (colOf t n) := by
  refine Fin.sum_mul_add_congr (f := fun k : Fin 16384 => u (ix2 (rowOf t r) k) * w (ix2 k (colOf t n))) fun s k hl => ?_
  have e1 : rowOf ⟨8 * (t.val / 8) + s.val, ht s⟩ r = rowOf t r := Fin.ext (by
    show 1024 * ((8 * (t.val / 8) + s.val) / 32) + r.val = 1024 * (t.val / 32) + r.val; omega)
  have e2 : colOf ⟨8 * (t.val / 8) + s.val, ht s⟩ n = colOf t n := Fin.ext (by
    show 1024 * ((8 * (t.val / 8) + s.val) / 8 % 4) + n.val = 1024 * (t.val / 8 % 4) + n.val; omega)
  have e3 : laneOf ⟨8 * (t.val / 8) + s.val, ht s⟩ k = ⟨s.val * 2048 + k.val, hl⟩ := Fin.ext (by
    show 2048 * ((8 * (t.val / 8) + s.val) % 8) + k.val = s.val * 2048 + k.val; omega)
  exact congrArg₂ (fun a b : EReal => a * b) (congrArg₂ (fun a b => u (ix2 a b)) e1 e3) (congrArg₂ (fun a b => w (ix2 a b)) e3 e2)

/-- What a point adds, at a place of the block. -/
theorem part_block (t : Fin cfg0.N) (r n : Fin 1024) (acc : Vec Ideal S1024x1024 .f32) :
    k0_pay2 (F := Ideal) (iblk m c 1 t) acc (iblk m c 0 t) (ix2 r n)
      = acc (ix2 r n) + part (m ((c : Thread nD τ).loc main_arg0)) (m ((c : Thread nD τ).loc main_arg1)) t (ix2 r n) := by
  rw [step_at]
  exact congrArg (fun a : EReal => acc (ix2 r n) + a)
    (Finset.sum_congr rfl fun k _ => congrArg₂ (fun a b : EReal => a * b) (u_block m c t r k) (w_block m c t k n))

theorem held_last (t : Fin cfg0.N) (h : t.val % 8 = 7) (r n : Fin 1024) :
    (outsAt0 (F := Ideal) m c t.val t.isLt).2 (ix2 r n)
      = product (m ((c : Thread nD τ).loc main_arg0)) (m ((c : Thread nD τ).loc main_arg1)) (rowOf t r) (colOf t n) := by
  refine (Pipeline.eq_sum_fin_of_reset_step_apply_of_flush
    (fun k hk (i : S1024x1024.Idx) => ((outsAt0 (F := Ideal) m c k hk).2 i : EReal)) 8 (fun _ => (0 : EReal))
    (part (m ((c : Thread nD τ).loc main_arg0)) (m ((c : Thread nD τ).loc main_arg1))) ?_ ?_ t h (ix2 r n)).trans ?_
  · intro t h i
    obtain ⟨r, n, rfl⟩ : ∃ (r n : Fin 1024), i = ix2 r n := ⟨_, _, eq_ix2 i⟩
    show (outsAt0 (F := Ideal) m c t.val t.isLt).2 (ix2 r n) = _
    rw [held_first m c t h, part_block, zero_at]
  · intro t h i
    obtain ⟨r, n, rfl⟩ : ∃ (r n : Fin 1024), i = ix2 r n := ⟨_, _, eq_ix2 i⟩
    show (outsAt0 (F := Ideal) m c t.val t.isLt).2 (ix2 r n) = _
    rw [held_next m c t h, part_block]
  · rw [zero_add]
    exact sum_parts _ _ t r n _

/-- The gated product added to the input, by index. -/
def joined (u : S16384x16384.Idx → EReal) (w x : S16384x4096.Idx → EReal) (g : S4x16x12288.Idx → EReal) (r : Fin 16384) (n : Fin 4096) : EReal :=
  x (ix2 r n) + g (ix3 1 ⟨r.val / 8192, by omega⟩ ⟨8192 + n.val, by omega⟩) * product u w r n

/-- The result, by index. -/
def answer (i : S16384x4096.Idx) : Elt Ideal .f32 :=
  joined (m ((c : Thread nD τ).loc main_arg0)) (m ((c : Thread nD τ).loc main_arg1)) (m ((c : Thread nD τ).loc main_arg2))
    (m ((c : Thread nD τ).loc main_arg3)) (i 0) (i 1)

theorem gate_place (A : S4x16x12288.Idx → EReal) (t : Fin cfg0.N) (r n : Fin 1024) :
    A (ix3 1 (seqOf t) (gateOf t n))
      = A (ix3 1 ⟨(rowOf t r).val / 8192, by omega⟩ ⟨8192 + (colOf t n).val, by omega⟩) := by
  have e1 : seqOf t = ⟨(rowOf t r).val / 8192, by omega⟩ := Fin.ext (by
    show t.val / 256 = (1024 * (t.val / 32) + r.val) / 8192; omega)
  have e2 : gateOf t n = ⟨8192 + (colOf t n).val, by omega⟩ := Fin.ext (by
    show 1024 * (8 + t.val / 8 % 4) + n.val = 8192 + (1024 * (t.val / 8 % 4) + n.val); omega)
  exact congrArg₂ (fun a b => A (ix3 1 a b)) e1 e2

theorem answer_block (t : Fin cfg0.N) (h : t.val % 8 = 7) (y : S1024x1024.Idx) :
    (outsAt0 (F := Ideal) m c t.val t.isLt).1 y = answer m c (((cfg0.win 4).blk t).view.emb y) := by
  obtain ⟨r, n, rfl⟩ : ∃ (r n : Fin 1024), y = ix2 r n := ⟨_, _, eq_ix2 y⟩
  rw [written m c t h, last_at, out_place (answer m c)]
  exact congrArg₂ (fun a b : EReal => a + b) (x_block m c t r n)
    (congrArg₂ (fun a b : EReal => a * b) ((g_block m c t n).trans (gate_place _ t r n)) (held_last m c t h r n))

theorem array_eq : (dats (F := Ideal) m 0 c).arrAt 4 (cfgs 0).N = answer m c := by
  refine (dats (F := Ideal) m 0 c).arrAt_eq_of_covers 4 _ (by decide +kernel) fun t hf y => ?_
  blk_simp
  rw [after0_4]
  exact answer_block m c t ((flush0_4 t).mp hf) y

end Cert.Proof.Narrow
-- ==== Proof.FeedClaim.lean ====
/-
  Over the extended reals the kernels of the two feed-forward products and their references end with the same results.
-/
module

public import proofs.«01_k».proof.Defs
public import proofs.«01_k».proof.Proof.Widen
public import proofs.«01_k».proof.Proof.Narrow
public import proofs.«01_k».proof.Proof.FeedFrames

@[expose] public section

set_option maxRecDepth 16384

noncomputable section

namespace Cert.Proof

open Idealize.ShloMosaic Idealize.ShloMosaic.TcCoe Idealize.ShloMosaic.Pointwise Idealize.SL.Sem

namespace Widen

open Cert.Reference2Ideal Cert.Reference2Ideal.Gen in
/-- The reference's result at an index. -/
theorem result_at (x : FVec Ideal S16384x4096 .f32) (w : FVec Ideal S4096x16384 .f32) (r n : Fin 16384) :
    truncf .bf16 (mulf (maximumf (Host.dotGeneral dot_S16384x4096_S4096x16384_S16384x16384_1_0_0_1_n_n none x w)
        (broadcastInDim S16384x16384 ![] bcast_S_S16384x16384 (constant S_ .f32 0x00000000#32)))
      (maximumf (Host.dotGeneral dot_S16384x4096_S4096x16384_S16384x16384_1_0_0_1_n_n none x w)
        (broadcastInDim S16384x16384 ![] bcast_S_S16384x16384 (constant S_ .f32 0x00000000#32)))) bitsLt_bf16_f32 (ix2 r n)
      = widened x w (ix2 r n) := by
  pointwise
  rfl

/-- The two results agree. -/
theorem algebraic : Cert.algebraic_Kernel2Ideal_Reference2Ideal := by
  intro m g m' g' _ hag
  refine ⟨fun c => answer m c, ?_, ?_⟩
  · exact (θ_run _ _ _).mono (fun r h c => ⟨(h c).1.trans (array_eq m c), (h c).2⟩) (Cert.Kernel2Ideal.Value.run_blocks (F := Ideal) m g)
  · refine (θ_run _ _ _).mono (fun r h c => ⟨(h c).1.trans ?_, (h c).2⟩) (Cert.Reference2Ideal.Value.run m' g')
    rw [(hag c).1, (hag c).2]
    funext i
    obtain ⟨r, n, rfl⟩ : ∃ (r n : Fin 16384), i = ix2 r n := ⟨_, _, eq_ix2 i⟩
    exact result_at _ _ r n

end Widen

namespace Narrow

open Cert.Reference3Ideal Cert.Reference3Ideal.Gen in
/-- The reference's result at an index. -/
theorem result_at (u : FVec Ideal S16384x16384 .f32) (w x : FVec Ideal S16384x4096 .f32) (g : FVec Ideal S4x16x12288 .f32)
    (r : Fin 16384) (n : Fin 4096) :
    shapeCast S16384x4096 (addf (shapeCast S2x8192x4096 x shapeCasts_S16384x4096_S2x8192x4096)
      (mulf (broadcastInDim S2x8192x4096 ![0, 1, 2] bcast_S2x1x4096_S2x8192x4096_0_1_2
          (extractStridedSlice S2x1x4096 ![0, 0, 8192] (broadcastInDim S2x1x12288 ![0, 2] bcast_S2x12288_S2x1x12288_0_2
            (shapeCast S2x12288 (extractStridedSlice S1x2x12288 ![1, 0, 0] g slices_S4x16x12288_S1x2x12288_1_0_0)
              shapeCasts_S1x2x12288_S2x12288)) slices_S2x1x12288_S2x1x4096_0_0_8192))
        (shapeCast S2x8192x4096 (Host.dotGeneral dot_S16384x16384_S16384x4096_S16384x4096_1_0_0_1_n_n none u w)
          shapeCasts_S16384x4096_S2x8192x4096))) shapeCasts_S2x8192x4096_S16384x4096 (ix2 r n)
      = joined u w x g r n := by
  pointwise
  rfl

/-- The two results agree. -/
theorem algebraic : Cert.algebraic_Kernel3Ideal_Reference3Ideal := by
  intro m g m' g' _ hag
  refine ⟨fun c => answer m c, ?_, ?_⟩
  · exact (θ_run _ _ _).mono (fun r h c => ⟨(h c).1.trans (array_eq m c), (h c).2⟩) (Cert.Kernel3Ideal.Value.run_blocks (F := Ideal) m g)
  · refine (θ_run _ _ _).mono (fun r h c => ⟨(h c).1.trans ?_, (h c).2⟩) (Cert.Reference3Ideal.Value.run m' g')
    rw [(hag c).1, (hag c).2.1, (hag c).2.2.1, (hag c).2.2.2]
    funext i
    obtain ⟨r, n, rfl⟩ : ∃ (r : Fin 16384) (n : Fin 4096), i = ix2 r n := ⟨_, _, eq_ix2 i⟩
    exact result_at _ _ _ _ r n

end Narrow

end Cert.Proof
-- ==== Proof.OutFrames.lean ====
/-
  The frames of the output projections and of the unscaled projections. Each kernel's program and its idealization have
  one text, so the run of the idealization's program at bit values is the kernel's.
-/
module

public import proofs.«01_k».proof.Defs
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run

@[expose] public section

noncomputable section

namespace Cert.Proof

open Idealize.ShloMosaic Idealize.SL.Sem

namespace OutLatent

/-- One kernel function, under two names. -/
theorem body_same : @Cert.Kernel4.cc0_out_c Bits _ _ = @Cert.Kernel4Ideal.cc0_out_c Bits _ _ := rfl

/-- Hence one body table, -/
theorem table_same : Cert.Kernel4.defs₀ (F := Bits) = Cert.Kernel4Ideal.defs₀ (F := Bits) := by
  unfold Cert.Kernel4.defs₀ Cert.Kernel4Ideal.defs₀
  congr 1
  funext l a
  match l, a with
  | 0, a => exact congrFun (congrFun (congrFun (congrFun (congrFun (congrFun (congrFun (congrFun (congrFun (congrFun
      (congrFun (congrFun (congrFun body_same _) _) _) _) _) _) _) _) _) _) _) _) _

theorem defs_same : Cert.Kernel4.defs (F := Bits) = Cert.Kernel4Ideal.defs (F := Bits) :=
  congrArg (Pipeline.defs Cert.Kernel4Ideal.pcfgs) table_same

/-- and one main. -/
theorem main_same : Cert.Kernel4.main (F := Bits) = Cert.Kernel4Ideal.main (F := Bits) := rfl

theorem frame_kernel : Cert.quiescent_Kernel4 := fun m ρ _ => by
  rw [defs_same, main_same]
  exact Cert.Kernel4Ideal.Gen.frame (F := Bits) m ρ

theorem frame_ideal : Cert.quiescent_Kernel4Ideal := fun m ρ _ => Cert.Kernel4Ideal.Gen.frame (F := Ideal) m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

end OutLatent

namespace OutHeads

/-- One kernel function, under two names. -/
theorem body_same : @Cert.Kernel5.cc0_out_ab Bits _ _ = @Cert.Kernel5Ideal.cc0_out_ab Bits _ _ := rfl

/-- Hence one body table, -/
theorem table_same : Cert.Kernel5.defs₀ (F := Bits) = Cert.Kernel5Ideal.defs₀ (F := Bits) := by
  unfold Cert.Kernel5.defs₀ Cert.Kernel5Ideal.defs₀
  congr 1
  funext l a
  match l, a with
  | 0, a => exact congrFun (congrFun (congrFun (congrFun (congrFun (congrFun (congrFun (congrFun (congrFun (congrFun
      (congrFun (congrFun (congrFun (congrFun (congrFun body_same _) _) _) _) _) _) _) _) _) _) _) _) _) _) _

theorem defs_same : Cert.Kernel5.defs (F := Bits) = Cert.Kernel5Ideal.defs (F := Bits) :=
  congrArg (Pipeline.defs Cert.Kernel5Ideal.pcfgs) table_same

/-- and one main. -/
theorem main_same : Cert.Kernel5.main (F := Bits) = Cert.Kernel5Ideal.main (F := Bits) := rfl

theorem frame_kernel : Cert.quiescent_Kernel5 := fun m ρ _ => by
  rw [defs_same, main_same]
  exact Cert.Kernel5Ideal.Gen.frame (F := Bits) m ρ

theorem frame_ideal : Cert.quiescent_Kernel5Ideal := fun m ρ _ => Cert.Kernel5Ideal.Gen.frame (F := Ideal) m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

end OutHeads

namespace Project

/-- One kernel function, under two names. -/
theorem body_same : @Cert.Kernel6.cc0_proj_kb Bits _ _ = @Cert.Kernel6Ideal.cc0_proj_kb Bits _ _ := rfl

/-- Hence one body table, -/
theorem table_same : Cert.Kernel6.defs₀ (F := Bits) = Cert.Kernel6Ideal.defs₀ (F := Bits) := by
  unfold Cert.Kernel6.defs₀ Cert.Kernel6Ideal.defs₀
  congr 1
  funext l a
  match l, a with
  | 0, a => exact congrFun (congrFun (congrFun (congrFun (congrFun (congrFun (congrFun
      (congrFun (congrFun body_same _) _) _) _) _) _) _) _) _

theorem defs_same : Cert.Kernel6.defs (F := Bits) = Cert.Kernel6Ideal.defs (F := Bits) :=
  congrArg (Pipeline.defs Cert.Kernel6Ideal.pcfgs) table_same

/-- and one main. -/
theorem main_same : Cert.Kernel6.main (F := Bits) = Cert.Kernel6Ideal.main (F := Bits) := rfl

theorem frame_kernel : Cert.quiescent_Kernel6 := fun m ρ _ => by
  rw [defs_same, main_same]
  exact Cert.Kernel6Ideal.Gen.frame (F := Bits) m ρ

theorem frame_ideal : Cert.quiescent_Kernel6Ideal := fun m ρ _ => Cert.Kernel6Ideal.Gen.frame (F := Ideal) m ρ

theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

end Project

end Cert.Proof

end
-- ==== Proof.OutLatent.lean ====
/-
  The output projection of the latent attention: the kernel's result array is the input plus the gate times the product.
-/
module

public import proofs.«01_k».proof.Proof.Gen.Kernel4Ideal.Value
public import Idealize.ShloMosaic.Lib.StableHlo.ReadAt
public import Idealize.ShloMosaic.Lib.Pipeline.ValueKit

@[expose] public section

set_option maxRecDepth 16384

noncomputable section

namespace Cert.Proof.OutLatent

open Idealize.ShloMosaic Idealize.ShloMosaic.TcCoe Idealize.ShloMosaic.Pointwise Idealize.SL.Sem Cert.Kernel4Ideal Cert.Kernel4Ideal.Gen

theorem zero_at (r n : Fin 1024) : k0_pay1 (F := Ideal) (ix2 r n) = (0 : EReal) := by
  pointwise [k0_pay1]

theorem step_at (w : Vec Ideal S2048x1024 .bf16) (acc : Vec Ideal S1024x1024 .f32) (u : Vec Ideal S1024x2048 .bf16) (r n : Fin 1024) :
    k0_pay2 (F := Ideal) w acc u (ix2 r n) = acc (ix2 r n) + ∑ k : Fin 2048, u (ix2 r k) * w (ix2 k n) := by
  pointwise [k0_pay2]

theorem last_at (x : Vec Ideal S1024x1024 .f32) (g : Vec Ideal S1x1x1x1024 .f32) (acc : Vec Ideal S1024x1024 .f32) (r n : Fin 1024) :
    k0_pay3 (F := Ideal) x g acc (ix2 r n) = x (ix2 r n) + g (ix4 0 0 0 n) * acc (ix2 r n) := by
  pointwise [k0_pay3]

theorem index_u : ∀ t : Fin cfg0.N, (cfg0.win 0).index t = ![t.val / 8, t.val % 2] := by decide +kernel
theorem index_w : ∀ t : Fin cfg0.N, (cfg0.win 1).index t = ![t.val % 2, t.val / 2 % 4] := by decide +kernel
theorem index_x : ∀ t : Fin cfg0.N, (cfg0.win 2).index t = ![t.val / 8, t.val / 2 % 4] := by decide +kernel
theorem index_g : ∀ t : Fin cfg0.N, (cfg0.win 3).index t = ![2, t.val / 64, 0, 8 + t.val / 2 % 4] := by decide +kernel
theorem index_o : ∀ t : Fin cfg0.N, (cfg0.win 4).index t = ![t.val / 8, t.val / 2 % 4] := by decide +kernel

/-- The rows, the columns, the summed lanes and the sequence of a grid point. -/
def rowOf (t : Fin cfg0.N) (r : Fin 1024) : Fin 16384 := ⟨1024 * (t.val / 8) + r.val, by have h : t.val < 128 := t.isLt; omega⟩
def colOf (t : Fin cfg0.N) (n : Fin 1024) : Fin 4096 := ⟨1024 * (t.val / 2 % 4) + n.val, by omega⟩
def laneOf (t : Fin cfg0.N) (k : Fin 2048) : Fin 4096 := ⟨2048 * (t.val % 2) + k.val, by omega⟩
def seqOf (t : Fin cfg0.N) : Fin 16 := ⟨t.val / 64, by have h : t.val < 128 := t.isLt; omega⟩
def gateOf (t : Fin cfg0.N) (n : Fin 1024) : Fin 12288 := ⟨1024 * (8 + t.val / 2 % 4) + n.val, by omega⟩

theorem u_place (A : S16384x4096.Idx → Elt Ideal .bf16) (t : Fin cfg0.N) (r : Fin 1024) (k : Fin 2048) :
    ((cfg0.win 0).blk t).view.read (Elt Ideal) A (ix2 r k) = A (ix2 (rowOf t r) (laneOf t k)) := by
  blk_ext [index_u t, rowOf, laneOf]

theorem w_place (A : S4096x4096.Idx → Elt Ideal .bf16) (t : Fin cfg0.N) (k : Fin 2048) (n : Fin 1024) :
    ((cfg0.win 1).blk t).view.read (Elt Ideal) A (ix2 k n) = A (ix2 (laneOf t k) (colOf t n)) := by
  blk_ext [index_w t, laneOf, colOf]

theorem x_place (A : S16384x4096.Idx → Elt Ideal .f32) (t : Fin cfg0.N) (r n : Fin 1024) :
    ((cfg0.win 2).blk t).view.read (Elt Ideal) A (ix2 r n) = A (ix2 (rowOf t r) (colOf t n)) := by
  blk_ext [index_x t, rowOf, colOf]

theorem g_place (A : S4x16x1x12288.Idx → Elt Ideal .f32) (t : Fin cfg0.N) (n : Fin 1024) :
    ((cfg0.win 3).blk t).view.read (Elt Ideal) A (ix4 0 0 0 n) = A (ix4 2 (seqOf t) 0 (gateOf t n)) := by
  blk_ext [index_g t, seqOf, gateOf]

theorem out_place (A : S16384x4096.Idx → Elt Ideal .f32) (t : Fin cfg0.N) (r n : Fin 1024) :
    A (((cfg0.win 4).blk t).view.emb (ix2 r n)) = A (ix2 (rowOf t r) (colOf t n)) := by
  blk_ext [index_o t, rowOf, colOf]

variable (m : (ℓ : Loc nD τ sig) → Buf (Elt Ideal) ℓ) (c : Dev nD)

theorem u_read (i : S16384x4096.Idx) : V m c main_v1 i = m ((c : Thread nD τ).loc main_arg0) i := by
  unfold V
  after_reads_at

theorem w_read (i : S4096x4096.Idx) : V m c main_v2 i = m ((c : Thread nD τ).loc main_arg1) i := by
  unfold V
  after_reads_at

theorem x_read (i : S16384x4096.Idx) : V m c main_arg2 i = m ((c : Thread nD τ).loc main_arg2) i := by
  unfold V
  after_reads_at

theorem g_read (s : Fin 4) (b : Fin 16) (n : Fin 12288) :
    V m c main_v0 (ix4 s b 0 n) = m ((c : Thread nD τ).loc main_arg3) (ix3 s b n) := by
  unfold V
  after_reads_at

theorem u_block (t : Fin cfg0.N) (r : Fin 1024) (k : Fin 2048) :
    iblk m c 0 t (ix2 r k) = m ((c : Thread nD τ).loc main_arg0) (ix2 (rowOf t r) (laneOf t k)) :=
  (u_place (V m c main_v1) t r k).trans (u_read m c _)

theorem w_block (t : Fin cfg0.N) (k : Fin 2048) (n : Fin 1024) :
    iblk m c 1 t (ix2 k n) = m ((c : Thread nD τ).loc main_arg1) (ix2 (laneOf t k) (colOf t n)) :=
  (w_place (V m c main_v2) t k n).trans (w_read m c _)

theorem x_block (t : Fin cfg0.N) (r n : Fin 1024) :
    iblk m c 2 t (ix2 r n) = m ((c : Thread nD τ).loc main_arg2) (ix2 (rowOf t r) (colOf t n)) :=
  (x_place (V m c main_arg2) t r n).trans (x_read m c _)

theorem g_block (t : Fin cfg0.N) (n : Fin 1024) :
    iblk m c 3 t (ix4 0 0 0 n) = m ((c : Thread nD τ).loc main_arg3) (ix3 2 (seqOf t) (gateOf t n)) :=
  (g_place (V m c main_v0) t n).trans (g_read m c _ _ _)

/-- A run's first point starts the sum from zero, -/
theorem held_first (t : Fin cfg0.N) (h : t.val % 2 = 0) :
    (outsAt0 (F := Ideal) m c t.val t.isLt).2 = k0_pay2 (iblk m c 1 t) (k0_pay1 (F := Ideal)) (iblk m c 0 t) := by
  rw [outsAt0_A m c t h (by omega)]
  frame_out

/-- the other adds to it -/
theorem held_next (t : Fin cfg0.N) (h : ¬t.val % 2 = 0) :
    (outsAt0 (F := Ideal) m c t.val t.isLt).2
      = k0_pay2 (iblk m c 1 t) (outsAt0 (F := Ideal) m c (t.val - 1) (Nat.lt_of_le_of_lt (Nat.sub_le _ _) t.isLt)).2 (iblk m c 0 t) := by
  rw [outsAt0_B m c t h (by omega)]
  frame_out
  exact congrArg (fun a => k0_pay2 (iblk m c 1 t) a (iblk m c 0 t)) (Memref.IsWhole.read_unread _ _)

/-- and writes the result. -/
theorem written (t : Fin cfg0.N) (h : t.val % 2 = 1) :
    (outsAt0 (F := Ideal) m c t.val t.isLt).1
      = k0_pay3 (iblk m c 2 t) (iblk m c 3 t) (outsAt0 (F := Ideal) m c t.val t.isLt).2 := by
  rw [outsAt0_B m c t (by omega) h]
  frame_out

/-- The product of two arrays at a row and a column, -/
def product (u : S16384x4096.Idx → EReal) (w : S4096x4096.Idx → EReal) (r : Fin 16384) (n : Fin 4096) : EReal :=
  ∑ k : Fin 4096, u (ix2 r k) * w (ix2 k n)

/-- and a grid point's part of it. -/
def part (u : S16384x4096.Idx → EReal) (w : S4096x4096.Idx → EReal) (t : Fin cfg0.N) (i : S1024x1024.Idx) : EReal :=
  ∑ k : Fin 2048, u (ix2 (rowOf t (i 0)) (laneOf t k)) * w (ix2 (laneOf t k) (colOf t (i 1)))

theorem sum_parts (u : S16384x4096.Idx → EReal) (w : S4096x4096.Idx → EReal) (t : Fin cfg0.N) (r n : Fin 1024)
    (ht : ∀ s : Fin 2, 2 * (t.val / 2) + s.val < cfg0.N) :
    ∑ s : Fin 2, part u w ⟨2 * (t.val / 2) + s.val, ht s⟩ (ix2 r n) = product u w (rowOf t r) (colOf t n) := by
  refine Fin.sum_mul_add_congr (f := fun k : Fin 4096 => u (ix2 (rowOf t r) k) * w (ix2 k (colOf t n))) fun s k hl => ?_
  have e1 : rowOf ⟨2 * (t.val / 2) + s.val, ht s⟩ r = rowOf t r := Fin.ext (by
    show 1024 * ((2 * (t.val / 2) + s.val) / 8) + r.val = 1024 * (t.val / 8) + r.val; omega)
  have e2 : colOf ⟨2 * (t.val / 2) + s.val, ht s⟩ n = colOf t n := Fin.ext (by
    show 1024 * ((2 * (t.val / 2) + s.val) / 2 % 4) + n.val = 1024 * (t.val / 2 % 4) + n.val; omega)
  have e3 : laneOf ⟨2 * (t.val / 2) + s.val, ht s⟩ k = ⟨s.val * 2048 + k.val, hl⟩ := Fin.ext (by
    show 2048 * ((2 * (t.val / 2) + s.val) % 2) + k.val = s.val * 2048 + k.val; omega)
  exact congrArg₂ (fun a b : EReal => a * b) (congrArg₂ (fun a b => u (ix2 a b)) e1 e3) (congrArg₂ (fun a b => w (ix2 a b)) e3 e2)

/-- What a point adds, at a place of the block. -/
theorem part_block (t : Fin cfg0.N) (r n : Fin 1024) (acc : Vec Ideal S1024x1024 .f32) :
    k0_pay2 (F := Ideal) (iblk m c 1 t) acc (iblk m c 0 t) (ix2 r n)
      = acc (ix2 r n) + part (m ((c : Thread nD τ).loc main_arg0)) (m ((c : Thread nD τ).loc main_arg1)) t (ix2 r n) := by
  rw [step_at]
  exact congrArg (fun a : EReal => acc (ix2 r n) + a)
    (Finset.sum_congr rfl fun k _ => congrArg₂ (fun a b : EReal => a * b) (u_block m c t r k) (w_block m c t k n))

theorem held_last (t : Fin cfg0.N) (h : t.val % 2 = 1) (r n : Fin 1024) :
    (outsAt0 (F := Ideal) m c t.val t.isLt).2 (ix2 r n)
      = product (m ((c : Thread nD τ).loc main_arg0)) (m ((c : Thread nD τ).loc main_arg1)) (rowOf t r) (colOf t n) := by
  refine (Pipeline.eq_sum_fin_of_reset_step_apply_of_flush
    (fun k hk (i : S1024x1024.Idx) => ((outsAt0 (F := Ideal) m c k hk).2 i : EReal)) 2 (fun _ => (0 : EReal))
    (part (m ((c : Thread nD τ).loc main_arg0)) (m ((c : Thread nD τ).loc main_arg1))) ?_ ?_ t h (ix2 r n)).trans ?_
  · intro t h i
    obtain ⟨r, n, rfl⟩ : ∃ (r n : Fin 1024), i = ix2 r n := ⟨_, _, eq_ix2 i⟩
    show (outsAt0 (F := Ideal) m c t.val t.isLt).2 (ix2 r n) = _
    rw [held_first m c t h, part_block, zero_at]
  · intro t h i
    obtain ⟨r, n, rfl⟩ : ∃ (r n : Fin 1024), i = ix2 r n := ⟨_, _, eq_ix2 i⟩
    show (outsAt0 (F := Ideal) m c t.val t.isLt).2 (ix2 r n) = _
    rw [held_next m c t h, part_block]
  · rw [zero_add]
    exact sum_parts _ _ t r n _

/-- The gated product added to the input, by index. -/
def joined (u : S16384x4096.Idx → EReal) (w : S4096x4096.Idx → EReal) (x : S16384x4096.Idx → EReal) (g : S4x16x12288.Idx → EReal) (r : Fin 16384) (n : Fin 4096) : EReal :=
  x (ix2 r n) + g (ix3 2 ⟨r.val / 8192, by omega⟩ ⟨8192 + n.val, by omega⟩) * product u w r n

/-- The result, by index. -/
def answer (i : S16384x4096.Idx) : Elt Ideal .f32 :=
  joined (m ((c : Thread nD τ).loc main_arg0)) (m ((c : Thread nD τ).loc main_arg1)) (m ((c : Thread nD τ).loc main_arg2))
    (m ((c : Thread nD τ).loc main_arg3)) (i 0) (i 1)

theorem gate_place (A : S4x16x12288.Idx → EReal) (t : Fin cfg0.N) (r n : Fin 1024) :
    A (ix3 2 (seqOf t) (gateOf t n))
      = A (ix3 2 ⟨(rowOf t r).val / 8192, by omega⟩ ⟨8192 + (colOf t n).val, by omega⟩) := by
  have e1 : seqOf t = ⟨(rowOf t r).val / 8192, by omega⟩ := Fin.ext (by
    show t.val / 64 = (1024 * (t.val / 8) + r.val) / 8192; omega)
  have e2 : gateOf t n = ⟨8192 + (colOf t n).val, by omega⟩ := Fin.ext (by
    show 1024 * (8 + t.val / 2 % 4) + n.val = 8192 + (1024 * (t.val / 2 % 4) + n.val); omega)
  exact congrArg₂ (fun a b => A (ix3 2 a b)) e1 e2

theorem answer_block (t : Fin cfg0.N) (h : t.val % 2 = 1) (y : S1024x1024.Idx) :
    (outsAt0 (F := Ideal) m c t.val t.isLt).1 y = answer m c (((cfg0.win 4).blk t).view.emb y) := by
  obtain ⟨r, n, rfl⟩ : ∃ (r n : Fin 1024), y = ix2 r n := ⟨_, _, eq_ix2 y⟩
  rw [written m c t h, last_at, out_place (answer m c)]
  exact congrArg₂ (fun a b : EReal => a + b) (x_block m c t r n)
    (congrArg₂ (fun a b : EReal => a * b) ((g_block m c t n).trans (gate_place _ t r n)) (held_last m c t h r n))

theorem array_eq : (dats (F := Ideal) m 0 c).arrAt 4 (cfgs 0).N = answer m c := by
  refine (dats (F := Ideal) m 0 c).arrAt_eq_of_covers 4 _ (by decide +kernel) fun t hf y => ?_
  blk_simp
  rw [after0_4]
  exact answer_block m c t ((flush0_4 t).mp hf) y

end Cert.Proof.OutLatent
-- ==== Proof.OutHeads.lean ====
/-
  The output projection of the two attentions of the even layers: the kernel's result array is the input plus the gate times the product.
-/
module

public import proofs.«01_k».proof.Proof.Gen.Kernel5Ideal.Value
public import Idealize.ShloMosaic.Lib.StableHlo.ReadAt
public import Idealize.ShloMosaic.Lib.Pipeline.ValueKit

@[expose] public section

set_option maxRecDepth 16384

noncomputable section

namespace Cert.Proof.OutHeads

open Idealize.ShloMosaic Idealize.ShloMosaic.TcCoe Idealize.ShloMosaic.Pointwise Idealize.SL.Sem Cert.Kernel5Ideal Cert.Kernel5Ideal.Gen

theorem zero_at (r n : Fin 1024) : k0_pay2 (F := Ideal) (ix2 r n) = (0 : EReal) := by
  pointwise [k0_pay2]

theorem first_at (w : Vec Ideal S2048x1024 .bf16) (acc : Vec Ideal S1024x1024 .f32) (u : Vec Ideal S1024x2048 .bf16) (r n : Fin 1024) :
    k0_pay3 (F := Ideal) w acc u (ix2 r n) = acc (ix2 r n) + ∑ k : Fin 2048, u (ix2 r k) * w (ix2 k n) := by
  pointwise [k0_pay3, k0_pay1]

theorem second_at (w : Vec Ideal S2048x1024 .bf16) (acc : Vec Ideal S1024x1024 .f32) (u : Vec Ideal S1024x2048 .bf16) (r n : Fin 1024) :
    k0_pay4 (F := Ideal) w acc u (ix2 r n) = acc (ix2 r n) + ∑ k : Fin 2048, u (ix2 r k) * w (ix2 k n) := by
  pointwise [k0_pay4, k0_pay1]

theorem last_at (x : Vec Ideal S1024x1024 .f32) (g : Vec Ideal S1x1x1x1024 .f32) (acc : Vec Ideal S1024x1024 .f32) (r n : Fin 1024) :
    k0_pay5 (F := Ideal) x g acc (ix2 r n) = x (ix2 r n) + g (ix4 0 0 0 n) * acc (ix2 r n) := by
  pointwise [k0_pay5]

theorem index_u : ∀ t : Fin cfg0.N, (cfg0.win 0).index t = ![t.val / 8, 0] := by decide +kernel
theorem index_v : ∀ t : Fin cfg0.N, (cfg0.win 1).index t = ![t.val / 8, 0] := by decide +kernel
theorem index_w : ∀ t : Fin cfg0.N, (cfg0.win 2).index t = ![t.val % 2, t.val / 2 % 4] := by decide +kernel
theorem index_x : ∀ t : Fin cfg0.N, (cfg0.win 3).index t = ![t.val / 8, t.val / 2 % 4] := by decide +kernel
theorem index_g : ∀ t : Fin cfg0.N, (cfg0.win 4).index t = ![0, t.val / 64, 0, 8 + t.val / 2 % 4] := by decide +kernel
theorem index_o : ∀ t : Fin cfg0.N, (cfg0.win 5).index t = ![t.val / 8, t.val / 2 % 4] := by decide +kernel

/-- The rows, the columns, the summed lanes and the sequence of a grid point. -/
def rowOf (t : Fin cfg0.N) (r : Fin 1024) : Fin 16384 := ⟨1024 * (t.val / 8) + r.val, by have h : t.val < 128 := t.isLt; omega⟩
def colOf (t : Fin cfg0.N) (n : Fin 1024) : Fin 4096 := ⟨1024 * (t.val / 2 % 4) + n.val, by omega⟩
def laneOf (t : Fin cfg0.N) (k : Fin 2048) : Fin 4096 := ⟨2048 * (t.val % 2) + k.val, by omega⟩
def seqOf (t : Fin cfg0.N) : Fin 16 := ⟨t.val / 64, by have h : t.val < 128 := t.isLt; omega⟩
def gateOf (t : Fin cfg0.N) (n : Fin 1024) : Fin 12288 := ⟨1024 * (8 + t.val / 2 % 4) + n.val, by omega⟩

theorem u_place (A : S16384x2048.Idx → Elt Ideal .bf16) (t : Fin cfg0.N) (r : Fin 1024) (k : Fin 2048) :
    ((cfg0.win 0).blk t).view.read (Elt Ideal) A (ix2 r k) = A (ix2 (rowOf t r) k) := by
  blk_ext [index_u t, rowOf]

theorem v_place (A : S16384x2048.Idx → Elt Ideal .bf16) (t : Fin cfg0.N) (r : Fin 1024) (k : Fin 2048) :
    ((cfg0.win 1).blk t).view.read (Elt Ideal) A (ix2 r k) = A (ix2 (rowOf t r) k) := by
  blk_ext [index_v t, rowOf]

theorem w_place (A : S4096x4096.Idx → Elt Ideal .bf16) (t : Fin cfg0.N) (k : Fin 2048) (n : Fin 1024) :
    ((cfg0.win 2).blk t).view.read (Elt Ideal) A (ix2 k n) = A (ix2 (laneOf t k) (colOf t n)) := by
  blk_ext [index_w t, laneOf, colOf]

theorem x_place (A : S16384x4096.Idx → Elt Ideal .f32) (t : Fin cfg0.N) (r n : Fin 1024) :
    ((cfg0.win 3).blk t).view.read (Elt Ideal) A (ix2 r n) = A (ix2 (rowOf t r) (colOf t n)) := by
  blk_ext [index_x t, rowOf, colOf]

theorem g_place (A : S4x16x1x12288.Idx → Elt Ideal .f32) (t : Fin cfg0.N) (n : Fin 1024) :
    ((cfg0.win 4).blk t).view.read (Elt Ideal) A (ix4 0 0 0 n) = A (ix4 0 (seqOf t) 0 (gateOf t n)) := by
  blk_ext [index_g t, seqOf, gateOf]

theorem out_place (A : S16384x4096.Idx → Elt Ideal .f32) (t : Fin cfg0.N) (r n : Fin 1024) :
    A (((cfg0.win 5).blk t).view.emb (ix2 r n)) = A (ix2 (rowOf t r) (colOf t n)) := by
  blk_ext [index_o t, rowOf, colOf]

variable (m : (ℓ : Loc nD τ sig) → Buf (Elt Ideal) ℓ) (c : Dev nD)

theorem u_read (i : S16384x2048.Idx) : V m c main_v1 i = m ((c : Thread nD τ).loc main_arg0) i := by
  unfold V
  after_reads_at

theorem v_read (i : S16384x2048.Idx) : V m c main_v2 i = m ((c : Thread nD τ).loc main_arg1) i := by
  unfold V
  after_reads_at

theorem w_read (i : S4096x4096.Idx) : V m c main_v3 i = m ((c : Thread nD τ).loc main_arg2) i := by
  unfold V
  after_reads_at

theorem x_read (i : S16384x4096.Idx) : V m c main_arg3 i = m ((c : Thread nD τ).loc main_arg3) i := by
  unfold V
  after_reads_at

theorem g_read (s : Fin 4) (b : Fin 16) (n : Fin 12288) :
    V m c main_v0 (ix4 s b 0 n) = m ((c : Thread nD τ).loc main_arg4) (ix3 s b n) := by
  unfold V
  after_reads_at

theorem u_block (t : Fin cfg0.N) (r : Fin 1024) (k : Fin 2048) :
    iblk m c 0 t (ix2 r k) = m ((c : Thread nD τ).loc main_arg0) (ix2 (rowOf t r) k) :=
  (u_place (V m c main_v1) t r k).trans (u_read m c _)

theorem v_block (t : Fin cfg0.N) (r : Fin 1024) (k : Fin 2048) :
    iblk m c 1 t (ix2 r k) = m ((c : Thread nD τ).loc main_arg1) (ix2 (rowOf t r) k) :=
  (v_place (V m c main_v2) t r k).trans (v_read m c _)

theorem w_block (t : Fin cfg0.N) (k : Fin 2048) (n : Fin 1024) :
    iblk m c 2 t (ix2 k n) = m ((c : Thread nD τ).loc main_arg2) (ix2 (laneOf t k) (colOf t n)) :=
  (w_place (V m c main_v3) t k n).trans (w_read m c _)

theorem x_block (t : Fin cfg0.N) (r n : Fin 1024) :
    iblk m c 3 t (ix2 r n) = m ((c : Thread nD τ).loc main_arg3) (ix2 (rowOf t r) (colOf t n)) :=
  (x_place (V m c main_arg3) t r n).trans (x_read m c _)

theorem g_block (t : Fin cfg0.N) (n : Fin 1024) :
    iblk m c 4 t (ix4 0 0 0 n) = m ((c : Thread nD τ).loc main_arg4) (ix3 0 (seqOf t) (gateOf t n)) :=
  (g_place (V m c main_v0) t n).trans (g_read m c _ _ _)

/-- A run's first point sums the first heads from zero, -/
theorem held_first (t : Fin cfg0.N) (h : t.val % 2 = 0) :
    (outsAt0 (F := Ideal) m c t.val t.isLt).2 = k0_pay3 (iblk m c 2 t) (k0_pay2 (F := Ideal)) (iblk m c 0 t) := by
  rw [outsAt0_A m c t h h (by omega) (by omega)]
  frame_out

/-- the other adds the second heads -/
theorem held_next (t : Fin cfg0.N) (h : ¬t.val % 2 = 0) :
    (outsAt0 (F := Ideal) m c t.val t.isLt).2
      = k0_pay4 (iblk m c 2 t) (outsAt0 (F := Ideal) m c (t.val - 1) (Nat.lt_of_le_of_lt (Nat.sub_le _ _) t.isLt)).2 (iblk m c 1 t) := by
  rw [outsAt0_B m c t h h (by omega) (by omega)]
  frame_out
  exact congrArg (fun a => k0_pay4 (iblk m c 2 t) a (iblk m c 1 t)) (Memref.IsWhole.read_unread _ _)

/-- and writes the result. -/
theorem written (t : Fin cfg0.N) (h : t.val % 2 = 1) :
    (outsAt0 (F := Ideal) m c t.val t.isLt).1
      = k0_pay5 (iblk m c 3 t) (iblk m c 4 t) (outsAt0 (F := Ideal) m c t.val t.isLt).2 := by
  rw [outsAt0_B m c t (by omega) (by omega) h h]
  frame_out

/-- Two arrays side by side, -/
def beside (u v : S16384x2048.Idx → EReal) (r : Fin 16384) (k : Fin 4096) : EReal :=
  if h : k.val < 2048 then u (ix2 r ⟨k.val, h⟩) else v (ix2 r ⟨k.val - 2048, by omega⟩)

/-- the product with a third at a row and a column, -/
def product (u v : S16384x2048.Idx → EReal) (w : S4096x4096.Idx → EReal) (r : Fin 16384) (n : Fin 4096) : EReal :=
  ∑ k : Fin 4096, beside u v r k * w (ix2 k n)

/-- and its two halves. -/
theorem product_halves (u v : S16384x2048.Idx → EReal) (w : S4096x4096.Idx → EReal) (r : Fin 16384) (n : Fin 4096) :
    product u v w r n = ∑ k : Fin 2048, u (ix2 r k) * w (ix2 ⟨k.val, by omega⟩ n)
      + ∑ k : Fin 2048, v (ix2 r k) * w (ix2 ⟨2048 + k.val, by omega⟩ n) := by
  refine (Fin.sum_univ_add (a := 2048) (b := 2048) (fun k : Fin 4096 => beside u v r k * w (ix2 k n))).trans ?_
  refine congrArg₂ (fun a b : EReal => a + b) (Finset.sum_congr rfl fun k _ => ?_) (Finset.sum_congr rfl fun k _ => ?_)
  · exact congrArg (fun a : EReal => a * w (ix2 ⟨k.val, by omega⟩ n)) (dif_pos k.isLt)
  · refine congrArg (fun a : EReal => a * w (ix2 ⟨2048 + k.val, by omega⟩ n)) ((dif_neg (Nat.not_lt.mpr (Nat.le_add_right 2048 k.val))).trans ?_)
    exact congrArg (fun a => v (ix2 r a)) (Fin.ext (Nat.add_sub_cancel_left 2048 k.val))

/-- What a run's two points have summed, at a place of the block. -/
theorem held_last (t : Fin cfg0.N) (h : t.val % 2 = 1) (r n : Fin 1024) :
    (outsAt0 (F := Ideal) m c t.val t.isLt).2 (ix2 r n)
      = product (m ((c : Thread nD τ).loc main_arg0)) (m ((c : Thread nD τ).loc main_arg1)) (m ((c : Thread nD τ).loc main_arg2))
          (rowOf t r) (colOf t n) := by
  have hp : t.val - 1 < cfg0.N := Nat.lt_of_le_of_lt (Nat.sub_le _ _) t.isLt
  have e1 : rowOf ⟨t.val - 1, hp⟩ r = rowOf t r := Fin.ext (by
    show 1024 * ((t.val - 1) / 8) + r.val = 1024 * (t.val / 8) + r.val; omega)
  have e2 : colOf ⟨t.val - 1, hp⟩ n = colOf t n := Fin.ext (by
    show 1024 * ((t.val - 1) / 2 % 4) + n.val = 1024 * (t.val / 2 % 4) + n.val; omega)
  have e3 : ∀ k, laneOf ⟨t.val - 1, hp⟩ k = ⟨k.val, by omega⟩ := fun k => Fin.ext (by
    show 2048 * ((t.val - 1) % 2) + k.val = k.val; omega)
  have e4 : ∀ k, laneOf t k = ⟨2048 + k.val, by omega⟩ := fun k => Fin.ext (by
    show 2048 * (t.val % 2) + k.val = 2048 + k.val; omega)
  rw [held_next m c t (by omega), second_at, product_halves]
  refine congrArg₂ (fun a b : EReal => a + b) ?_ (Finset.sum_congr rfl fun k _ =>
    congrArg₂ (fun a b : EReal => a * b) (v_block m c t r k)
      ((w_block m c t k n).trans (congrArg (fun a => m ((c : Thread nD τ).loc main_arg2) (ix2 a (colOf t n))) (e4 k))))
  refine (congrFun (held_first m c ⟨t.val - 1, hp⟩ (by show (t.val - 1) % 2 = 0; omega)) (ix2 r n)).trans ?_
  rw [first_at, zero_at, zero_add]
  exact Finset.sum_congr rfl fun k _ => congrArg₂ (fun a b : EReal => a * b)
    ((u_block m c ⟨t.val - 1, hp⟩ r k).trans (congrArg (fun a => m ((c : Thread nD τ).loc main_arg0) (ix2 a k)) e1))
    ((w_block m c ⟨t.val - 1, hp⟩ k n).trans (congrArg₂ (fun a b => m ((c : Thread nD τ).loc main_arg2) (ix2 a b)) (e3 k) e2))

/-- The gated product added to the input, by index. -/
def joined (u v : S16384x2048.Idx → EReal) (w : S4096x4096.Idx → EReal) (x : S16384x4096.Idx → EReal) (g : S4x16x12288.Idx → EReal)
    (r : Fin 16384) (n : Fin 4096) : EReal :=
  x (ix2 r n) + g (ix3 0 ⟨r.val / 8192, by omega⟩ ⟨8192 + n.val, by omega⟩) * product u v w r n

/-- The result, by index. -/
def answer (i : S16384x4096.Idx) : Elt Ideal .f32 :=
  joined (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

theorem gate_place (A : S4x16x12288.Idx → EReal) (t : Fin cfg0.N) (r n : Fin 1024) :
    A (ix3 0 (seqOf t) (gateOf t n))
      = A (ix3 0 ⟨(rowOf t r).val / 8192, by omega⟩ ⟨8192 + (colOf t n).val, by omega⟩) := by
  have e1 : seqOf t = ⟨(rowOf t r).val / 8192, by omega⟩ := Fin.ext (by
    show t.val / 64 = (1024 * (t.val / 8) + r.val) / 8192; omega)
  have e2 : gateOf t n = ⟨8192 + (colOf t n).val, by omega⟩ := Fin.ext (by
    show 1024 * (8 + t.val / 2 % 4) + n.val = 8192 + (1024 * (t.val / 2 % 4) + n.val); omega)
  exact congrArg₂ (fun a b => A (ix3 0 a b)) e1 e2

theorem answer_block (t : Fin cfg0.N) (h : t.val % 2 = 1) (y : S1024x1024.Idx) :
    (outsAt0 (F := Ideal) m c t.val t.isLt).1 y = answer m c (((cfg0.win 5).blk t).view.emb y) := by
  obtain ⟨r, n, rfl⟩ : ∃ (r n : Fin 1024), y = ix2 r n := ⟨_, _, eq_ix2 y⟩
  rw [written m c t h, last_at, out_place (answer m c)]
  exact congrArg₂ (fun a b : EReal => a + b) (x_block m c t r n)
    (congrArg₂ (fun a b : EReal => a * b) ((g_block m c t n).trans (gate_place _ t r n)) (held_last m c t h r n))

theorem array_eq : (dats (F := Ideal) m 0 c).arrAt 5 (cfgs 0).N = answer m c := by
  refine (dats (F := Ideal) m 0 c).arrAt_eq_of_covers 5 _ (by decide +kernel) fun t hf y => ?_
  blk_simp
  rw [after0_5]
  exact answer_block m c t ((flush0_5 t).mp hf) y

end Cert.Proof.OutHeads
-- ==== Proof.Project.lean ====
/-
  The unscaled projections of the even layers: the kernel's two result arrays are the product.
-/
module

public import proofs.«01_k».proof.Proof.Gen.Kernel6Ideal.Value
public import Idealize.ShloMosaic.Lib.StableHlo.ReadAt
public import Idealize.ShloMosaic.Lib.Pipeline.ValueKit

@[expose] public section

set_option maxRecDepth 16384

noncomputable section

namespace Cert.Proof.Project

open Idealize.ShloMosaic Idealize.ShloMosaic.TcCoe Idealize.ShloMosaic.Pointwise Idealize.SL.Sem Cert.Kernel6Ideal Cert.Kernel6Ideal.Gen

/-- The four payloads are one product, of the columns' first half and of their second. -/
theorem pay1_at (x : Vec Ideal S1024x4096 .bf16) (w : Vec Ideal S4096x512 .bf16) (r : Fin 1024) (n : Fin 512) :
    k0_pay1 (F := Ideal) x w (ix2 r n) = ∑ k : Fin 4096, x (ix2 r k) * w (ix2 k n) := by
  pointwise [k0_pay1]

theorem pay2_at (x : Vec Ideal S1024x4096 .bf16) (w : Vec Ideal S4096x512 .bf16) (r : Fin 1024) (n : Fin 512) :
    k0_pay2 (F := Ideal) x w (ix2 r n) = ∑ k : Fin 4096, x (ix2 r k) * w (ix2 k n) := by
  pointwise [k0_pay2, k0_pay1]

theorem pay3_at (x : Vec Ideal S1024x4096 .bf16) (w : Vec Ideal S4096x512 .bf16) (r : Fin 1024) (n : Fin 512) :
    k0_pay3 (F := Ideal) x w (ix2 r n) = ∑ k : Fin 4096, x (ix2 r k) * w (ix2 k n) := by
  pointwise [k0_pay3]

theorem pay4_at (x : Vec Ideal S1024x4096 .bf16) (w : Vec Ideal S4096x512 .bf16) (r : Fin 1024) (n : Fin 512) :
    k0_pay4 (F := Ideal) x w (ix2 r n) = ∑ k : Fin 4096, x (ix2 r k) * w (ix2 k n) := by
  pointwise [k0_pay4, k0_pay3]

/-- The halves' places: columns 0 and 512 onwards. -/
theorem cols_lo (k : Fin 4096) (n : Fin 512) : r0_1.idx (ix2 k n) = ix2 k (⟨n.val, by omega⟩ : Fin 1024) := by
  funext a
  match a with
  | ⟨0, _⟩ => apply Fin.ext; show 0 + 1 * k.val = k.val; omega
  | ⟨1, _⟩ => apply Fin.ext; show 0 + 1 * n.val = n.val; omega

theorem cols_hi (k : Fin 4096) (n : Fin 512) : r0_3.idx (ix2 k n) = ix2 k (⟨512 + n.val, by omega⟩ : Fin 1024) := by
  funext a
  match a with
  | ⟨0, _⟩ => apply Fin.ext; show 0 + 1 * k.val = k.val; omega
  | ⟨1, _⟩ => apply Fin.ext; show 512 + 1 * n.val = 512 + n.val; omega

theorem place_lo (r : Fin 1024) (n : Fin 512) : r0_2.emb (ix2 r n) = ix2 r (⟨n.val, by omega⟩ : Fin 1024) := by
  funext a
  match a with
  | ⟨0, _⟩ => apply Fin.ext; show 0 + 1 * r.val = r.val; omega
  | ⟨1, _⟩ => apply Fin.ext; show 0 + 1 * n.val = n.val; omega

theorem place_hi (r : Fin 1024) (n : Fin 512) : r0_4.emb (ix2 r n) = ix2 r (⟨512 + n.val, by omega⟩ : Fin 1024) := by
  funext a
  match a with
  | ⟨0, _⟩ => apply Fin.ext; show 0 + 1 * r.val = r.val; omega
  | ⟨1, _⟩ => apply Fin.ext; show 512 + 1 * n.val = 512 + n.val; omega

/-- The product of a block of rows and a block of columns. -/
def inBlock (x : S1024x4096.Idx → EReal) (w : S4096x1024.Idx → EReal) (i : S1024x1024.Idx) : EReal :=
  ∑ k : Fin 4096, x (ix2 (i 0) k) * w (ix2 k (i 1))

theorem half_lo (x : S1024x4096.Idx → EReal) (w : S4096x1024.Idx → EReal) (r : Fin 1024) (n : Fin 512) :
    ∑ k : Fin 4096, x (ix2 r k) * w (r0_1.idx (ix2 k n)) = inBlock x w (r0_2.emb (ix2 r n)) := by
  rw [place_lo]
  exact Finset.sum_congr rfl fun k _ => congrArg (fun a => x (ix2 r k) * w a) (cols_lo k n)

theorem half_hi (x : S1024x4096.Idx → EReal) (w : S4096x1024.Idx → EReal) (r : Fin 1024) (n : Fin 512) :
    ∑ k : Fin 4096, x (ix2 r k) * w (r0_3.idx (ix2 k n)) = inBlock x w (r0_4.emb (ix2 r n)) := by
  rw [place_hi]
  exact Finset.sum_congr rfl fun k _ => congrArg (fun a => x (ix2 r k) * w a) (cols_hi k n)

theorem out3_eq (x : Vec Ideal S1024x4096 .bf16) (w : Vec Ideal S4096x1024 .bf16) : out0_3 (F := Ideal) x w = inBlock x w := by
  funext y
  unfold out0_3
  frame_out
  refine View.canon_apply_of_pieces (Val := Elt Ideal) (e := .f32) (inBlock x w) _ (fun p hp i => ?_) y (cover0_3 _ _ y)
  rcases List.mem_cons.1 hp with rfl | hp
  · obtain ⟨r, n, rfl⟩ : ∃ (r : Fin 1024) (n : Fin 512), i = ix2 r n := ⟨_, _, eq_ix2 i⟩
    exact (pay3_at _ _ r n).trans (half_hi x w r n)
  · rcases List.mem_cons.1 hp with rfl | hp
    · obtain ⟨r, n, rfl⟩ : ∃ (r : Fin 1024) (n : Fin 512), i = ix2 r n := ⟨_, _, eq_ix2 i⟩
      exact (pay1_at _ _ r n).trans (half_lo x w r n)
    · exact absurd hp List.not_mem_nil

theorem out2_eq (x : Vec Ideal S1024x4096 .bf16) (w : Vec Ideal S4096x1024 .bf16) : out0_2 (F := Ideal) x w = inBlock x w := by
  funext y
  unfold out0_2
  frame_out
  refine View.canon_apply_of_pieces (Val := Elt Ideal) (e := .bf16) (inBlock x w) _ (fun p hp i => ?_) y (cover0_2 _ _ y)
  rcases List.mem_cons.1 hp with rfl | hp
  · obtain ⟨r, n, rfl⟩ : ∃ (r : Fin 1024) (n : Fin 512), i = ix2 r n := ⟨_, _, eq_ix2 i⟩
    exact (pay4_at _ _ r n).trans (half_hi x w r n)
  · rcases List.mem_cons.1 hp with rfl | hp
    · obtain ⟨r, n, rfl⟩ : ∃ (r : Fin 1024) (n : Fin 512), i = ix2 r n := ⟨_, _, eq_ix2 i⟩
      exact (pay2_at _ _ r n).trans (half_lo x w r n)
    · exact absurd hp List.not_mem_nil

theorem index_x : ∀ t : Fin cfg0.N, (cfg0.win 0).index t = ![t.val / 2, 0] := by decide +kernel
theorem index_w : ∀ t : Fin cfg0.N, (cfg0.win 1).index t = ![0, t.val % 2] := by decide +kernel
theorem index_b : ∀ t : Fin cfg0.N, (cfg0.win 2).index t = ![t.val / 2, t.val % 2] := by decide +kernel
theorem index_f : ∀ t : Fin cfg0.N, (cfg0.win 3).index t = ![t.val / 2, t.val % 2] := by decide +kernel

/-- The row block and the column block of a grid point. -/
def rowOf (t : Fin cfg0.N) (r : Fin 1024) : Fin 16384 := ⟨1024 * (t.val / 2) + r.val, by have h : t.val < 32 := t.isLt; omega⟩
def colOf (t : Fin cfg0.N) (n : Fin 1024) : Fin 2048 := ⟨1024 * (t.val % 2) + n.val, by omega⟩

theorem x_place (A : S16384x4096.Idx → Elt Ideal .bf16) (t : Fin cfg0.N) (r : Fin 1024) (k : Fin 4096) :
    ((cfg0.win 0).blk t).view.read (Elt Ideal) A (ix2 r k) = A (ix2 (rowOf t r) k) := by
  blk_ext [index_x t, rowOf]

theorem w_place (A : S4096x2048.Idx → Elt Ideal .bf16) (t : Fin cfg0.N) (k : Fin 4096) (n : Fin 1024) :
    ((cfg0.win 1).blk t).view.read (Elt Ideal) A (ix2 k n) = A (ix2 k (colOf t n)) := by
  blk_ext [index_w t, colOf]

theorem b_place (A : S16384x2048.Idx → Elt Ideal .bf16) (t : Fin cfg0.N) (r n : Fin 1024) :
    A (((cfg0.win 2).blk t).view.emb (ix2 r n)) = A (ix2 (rowOf t r) (colOf t n)) := by
  blk_ext [index_b t, rowOf, colOf]

theorem f_place (A : S16384x2048.Idx → Elt Ideal .f32) (t : Fin cfg0.N) (r n : Fin 1024) :
    A (((cfg0.win 3).blk t).view.emb (ix2 r n)) = A (ix2 (rowOf t r) (colOf t n)) := by
  blk_ext [index_f t, rowOf, colOf]

variable (m : (ℓ : Loc nD τ sig) → Buf (Elt Ideal) ℓ) (c : Dev nD)

theorem x_read (i : S16384x4096.Idx) : V m c main_v0 i = m ((c : Thread nD τ).loc main_arg0) i := by
  unfold V
  after_reads_at

theorem w_read (i : S4096x2048.Idx) : V m c main_v1 i = m ((c : Thread nD τ).loc main_arg1) i := by
  unfold V
  after_reads_at

theorem x_block (t : Fin cfg0.N) (r : Fin 1024) (k : Fin 4096) :
    iblk m c 0 t (ix2 r k) = m ((c : Thread nD τ).loc main_arg0) (ix2 (rowOf t r) k) :=
  (x_place (V m c main_v0) t r k).trans (x_read m c _)

theorem w_block (t : Fin cfg0.N) (k : Fin 4096) (n : Fin 1024) :
    iblk m c 1 t (ix2 k n) = m ((c : Thread nD τ).loc main_arg1) (ix2 k (colOf t n)) :=
  (w_place (V m c main_v1) t k n).trans (w_read m c _)

/-- The product of two arrays, by index. -/
def product (x : S16384x4096.Idx → EReal) (w : S4096x2048.Idx → EReal) (i : S16384x2048.Idx) : EReal :=
  ∑ k : Fin 4096, x (ix2 (i 0) k) * w (ix2 k (i 1))

/-- The result, by index. -/
def answer (i : S16384x2048.Idx) : EReal :=
  product (m ((c : Thread nD τ).loc main_arg0)) (m ((c : Thread nD τ).loc main_arg1)) i

theorem answer_block (t : Fin cfg0.N) (r n : Fin 1024) :
    inBlock (iblk m c 0 t) (iblk m c 1 t) (ix2 r n) = answer m c (ix2 (rowOf t r) (colOf t n)) :=
  Finset.sum_congr rfl fun k _ => congrArg₂ (fun a b : EReal => a * b) (x_block m c t r k) (w_block m c t k n)

theorem b_block (t : Fin cfg0.N) (y : S1024x1024.Idx) :
    out0_2 (F := Ideal) (iblk m c 0 t) (iblk m c 1 t) y = answer m c (((cfg0.win 2).blk t).view.emb y) := by
  obtain ⟨r, n, rfl⟩ : ∃ (r n : Fin 1024), y = ix2 r n := ⟨_, _, eq_ix2 y⟩
  rw [out2_eq, b_place (answer m c)]
  exact answer_block m c t r n

theorem f_block (t : Fin cfg0.N) (y : S1024x1024.Idx) :
    out0_3 (F := Ideal) (iblk m c 0 t) (iblk m c 1 t) y = answer m c (((cfg0.win 3).blk t).view.emb y) := by
  obtain ⟨r, n, rfl⟩ : ∃ (r n : Fin 1024), y = ix2 r n := ⟨_, _, eq_ix2 y⟩
  rw [out3_eq, f_place (answer m c)]
  exact answer_block m c t r n

theorem b_array : (dats (F := Ideal) m 0 c).arrAt 2 (cfgs 0).N = answer m c := by
  refine (dats (F := Ideal) m 0 c).arrAt_eq_of_covers 2 _ (by decide +kernel) fun t hf y => ?_
  blk_simp
  rw [after0_2]
  exact b_block m c t y

theorem f_array : (dats (F := Ideal) m 0 c).arrAt 3 (cfgs 0).N = answer m c := by
  refine (dats (F := Ideal) m 0 c).arrAt_eq_of_covers 3 _ (by decide +kernel) fun t hf y => ?_
  blk_simp
  rw [after0_3]
  exact f_block m c t y

end Cert.Proof.Project
-- ==== Proof.OutClaim.lean ====
/-
  Over the extended reals the kernels of the output projections and of the unscaled projections and their references end
  with the same results.
-/
module

public import proofs.«01_k».proof.Defs
public import proofs.«01_k».proof.Proof.OutLatent
public import proofs.«01_k».proof.Proof.OutHeads
public import proofs.«01_k».proof.Proof.Project
public import proofs.«01_k».proof.Proof.OutFrames

@[expose] public section

set_option maxRecDepth 16384

noncomputable section

namespace Cert.Proof

open Idealize.ShloMosaic Idealize.ShloMosaic.TcCoe Idealize.ShloMosaic.Pointwise Idealize.SL.Sem

namespace OutLatent

open Cert.Reference4Ideal Cert.Reference4Ideal.Gen in
/-- The reference's result at an index. -/
theorem result_at (u : FVec Ideal S16384x4096 .f32) (w : FVec Ideal S4096x4096 .f32) (x : FVec Ideal S16384x4096 .f32)
    (g : FVec Ideal S4x16x12288 .f32) (r : Fin 16384) (n : Fin 4096) :
    shapeCast S16384x4096 (addf (shapeCast S2x8192x4096 x shapeCasts_S16384x4096_S2x8192x4096)
      (mulf (broadcastInDim S2x8192x4096 ![0, 1, 2] bcast_S2x1x4096_S2x8192x4096_0_1_2
          (extractStridedSlice S2x1x4096 ![0, 0, 8192] (broadcastInDim S2x1x12288 ![0, 2] bcast_S2x12288_S2x1x12288_0_2
            (shapeCast S2x12288 (extractStridedSlice S1x2x12288 ![2, 0, 0] g slices_S4x16x12288_S1x2x12288_2_0_0)
              shapeCasts_S1x2x12288_S2x12288)) slices_S2x1x12288_S2x1x4096_0_0_8192))
        (shapeCast S2x8192x4096 (Host.dotGeneral dot_S16384x4096_S4096x4096_S16384x4096_1_0_0_1_n_n none u w)
          shapeCasts_S16384x4096_S2x8192x4096))) shapeCasts_S2x8192x4096_S16384x4096 (ix2 r n)
      = joined u w x g r n := by
  pointwise
  rfl

/-- The two results agree. -/
theorem algebraic : Cert.algebraic_Kernel4Ideal_Reference4Ideal := by
  intro m g m' g' _ hag
  refine ⟨fun c => answer m c, ?_, ?_⟩
  · exact (θ_run _ _ _).mono (fun r h c => ⟨(h c).1.trans (array_eq m c), (h c).2⟩) (Cert.Kernel4Ideal.Value.run_blocks (F := Ideal) m g)
  · refine (θ_run _ _ _).mono (fun r h c => ⟨(h c).1.trans ?_, (h c).2⟩) (Cert.Reference4Ideal.Value.run m' g')
    rw [(hag c).1, (hag c).2.1, (hag c).2.2.1, (hag c).2.2.2]
    funext i
    obtain ⟨r, n, rfl⟩ : ∃ (r : Fin 16384) (n : Fin 4096), i = ix2 r n := ⟨_, _, eq_ix2 i⟩
    exact result_at _ _ _ _ r n

end OutLatent

namespace OutHeads

open Cert.Reference5Ideal Cert.Reference5Ideal.Gen in
/-- Two arrays side by side, at an index. -/
theorem beside_at (u v : FVec Ideal S16384x2048 .f32) (r : Fin 16384) (k : Fin 4096) :
    concatenate S16384x4096 1 [⟨S16384x2048, u⟩, ⟨S16384x2048, v⟩] concatenates_S16384x2048_S16384x2048_S16384x4096_d1 (ix2 r k)
      = beside u v r k := by
  pointwise
  rfl

open Cert.Reference5Ideal Cert.Reference5Ideal.Gen in
/-- The reference's result at an index. -/
theorem result_at (uv : FVec Ideal S16384x4096 .f32) (w : FVec Ideal S4096x4096 .f32) (x : FVec Ideal S16384x4096 .f32)
    (g : FVec Ideal S4x16x12288 .f32) (r : Fin 16384) (n : Fin 4096) :
    shapeCast S16384x4096 (addf (shapeCast S2x8192x4096 x shapeCasts_S16384x4096_S2x8192x4096)
      (mulf (broadcastInDim S2x8192x4096 ![0, 1, 2] bcast_S2x1x4096_S2x8192x4096_0_1_2
          (extractStridedSlice S2x1x4096 ![0, 0, 8192] (broadcastInDim S2x1x12288 ![0, 2] bcast_S2x12288_S2x1x12288_0_2
            (shapeCast S2x12288 (extractStridedSlice S1x2x12288 ![0, 0, 0] g slices_S4x16x12288_S1x2x12288_0_0_0)
              shapeCasts_S1x2x12288_S2x12288)) slices_S2x1x12288_S2x1x4096_0_0_8192))
        (shapeCast S2x8192x4096 (Host.dotGeneral dot_S16384x4096_S4096x4096_S16384x4096_1_0_0_1_n_n none uv w)
          shapeCasts_S16384x4096_S2x8192x4096))) shapeCasts_S2x8192x4096_S16384x4096 (ix2 r n)
      = (x (ix2 r n) : EReal) + g (ix3 0 ⟨r.val / 8192, by omega⟩ ⟨8192 + n.val, by omega⟩) * ∑ k : Fin 4096, uv (ix2 r k) * w (ix2 k n) := by
  pointwise

/-- The two results agree. -/
theorem algebraic : Cert.algebraic_Kernel5Ideal_Reference5Ideal := by
  intro m g m' g' _ hag
  refine ⟨fun c => answer m c, ?_, ?_⟩
  · exact (θ_run _ _ _).mono (fun r h c => ⟨(h c).1.trans (array_eq m c), (h c).2⟩) (Cert.Kernel5Ideal.Value.run_blocks (F := Ideal) m g)
  · refine (θ_run _ _ _).mono (fun r h c => ⟨(h c).1.trans ?_, (h c).2⟩) (Cert.Reference5Ideal.Value.run m' g')
    rw [(hag c).1, (hag c).2.1, (hag c).2.2.1, (hag c).2.2.2.1, (hag c).2.2.2.2]
    funext i
    obtain ⟨r, n, rfl⟩ : ∃ (r : Fin 16384) (n : Fin 4096), i = ix2 r n := ⟨_, _, eq_ix2 i⟩
    refine (result_at _ _ _ _ r n).trans ?_
    exact congrArg (fun a : EReal => _ + _ * a) (Finset.sum_congr rfl fun k _ => congrArg (fun a : EReal => a * _) (beside_at _ _ r k))

end OutHeads

namespace Project

open Cert.Reference6Ideal Cert.Reference6Ideal.Gen in
/-- The reference's results at an index. -/
theorem product_at (x : FVec Ideal S16384x4096 .f32) (w : FVec Ideal S4096x2048 .f32) (r : Fin 16384) (n : Fin 2048) :
    Host.dotGeneral dot_S16384x4096_S4096x2048_S16384x2048_1_0_0_1_n_n none x w (ix2 r n) = product x w (ix2 r n) := by
  pointwise
  rfl

open Cert.Reference6Ideal Cert.Reference6Ideal.Gen in
theorem rounded_at (x : FVec Ideal S16384x4096 .f32) (w : FVec Ideal S4096x2048 .f32) (r : Fin 16384) (n : Fin 2048) :
    truncf .bf16 (Host.dotGeneral dot_S16384x4096_S4096x2048_S16384x2048_1_0_0_1_n_n none x w) bitsLt_bf16_f32 (ix2 r n)
      = product x w (ix2 r n) := by
  pointwise
  rfl

/-- The results agree. -/
theorem algebraic : Cert.algebraic_Kernel6Ideal_Reference6Ideal := by
  intro m g m' g' _ hag
  refine ⟨fun c => answer m c, fun c => answer m c, ?_, ?_⟩
  · exact (θ_run _ _ _).mono (fun r h c => ⟨(h c).1.trans (b_array m c), (h c).2.1.trans (f_array m c), (h c).2.2⟩)
      (Cert.Kernel6Ideal.Value.run_blocks (F := Ideal) m g)
  · refine (θ_run _ _ _).mono (fun r h c => ⟨(h c).1.trans ?_, (h c).2.1.trans ?_, (h c).2.2⟩) (Cert.Reference6Ideal.Value.run m' g')
    · rw [(hag c).1, (hag c).2]
      funext i
      obtain ⟨r, n, rfl⟩ : ∃ (r : Fin 16384) (n : Fin 2048), i = ix2 r n := ⟨_, _, eq_ix2 i⟩
      exact rounded_at _ _ r n
    · rw [(hag c).1, (hag c).2]
      funext i
      obtain ⟨r, n, rfl⟩ : ∃ (r : Fin 16384) (n : Fin 2048), i = ix2 r n := ⟨_, _, eq_ix2 i⟩
      exact product_at _ _ r n

end Project

end Cert.Proof
-- ==== Proof.lean ====
/-
  The proof of the certificate's claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.LatentFrames
public import proofs.«01_k».proof.Proof.LatentClaim
public import proofs.«01_k».proof.Proof.FeedFrames
public import proofs.«01_k».proof.Proof.FeedClaim
public import proofs.«01_k».proof.Proof.OutFrames
public import proofs.«01_k».proof.Proof.OutClaim

@[expose] public section

noncomputable section

namespace Cert.Proof

open Idealize.ShloMosaic Idealize.SL.Sem

/-- The reference ends with its arguments unchanged and its counters at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Pre_finite_scores.Gen.facts,
    Latent.frame_kernel, Latent.frame_ideal, fun m g _ => Latent.frame_ideal m g trivial, frame_reference,
    fun m g _ => frame_reference m g trivial, Widen.frame_kernel, Widen.frame_ideal, Widen.frame_reference,
    Narrow.frame_kernel, Narrow.frame_ideal, Narrow.frame_reference, OutLatent.frame_kernel,
    OutLatent.frame_ideal, OutLatent.frame_reference, OutHeads.frame_kernel, OutHeads.frame_ideal, OutHeads.frame_reference,
    Project.frame_kernel, Project.frame_ideal, Project.frame_reference, trivial, Latent.algebraic, trivial, Widen.algebraic,
    trivial, Narrow.algebraic, trivial, OutLatent.algebraic, trivial, OutHeads.algebraic, trivial, Project.algebraic⟩

end Cert.Proof

end
